-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x8192 : Shape := ⟨2, ![512, 8192]⟩
abbrev S2x512x4096 : Shape := ⟨3, ![2, 512, 4096]⟩
abbrev S2x4 : Shape := ⟨2, ![2, 4]⟩
abbrev S_ : Shape := ⟨0, ![]⟩
abbrev S512x512 : Shape := ⟨2, ![512, 512]⟩
abbrev S512x1024 : Shape := ⟨2, ![512, 1024]⟩
abbrev S1x512x1024 : Shape := ⟨3, ![1, 512, 1024]⟩
abbrev S1x1 : Shape := ⟨2, ![1, 1]⟩

abbrev nBuf : Space → Nat
  | .hbm => 3
  | .vmem => 4
  | .smem => 0
  | _ => 0

abbrev bufTy : (tb : Table) → Fin (tcTables nBuf tb) → BufTy
  | .hbm, ⟨0, _⟩ => ⟨S4096x512, .f32⟩
  | .hbm, ⟨1, _⟩ => ⟨S512x8192, .f32⟩
  | .hbm, ⟨2, _⟩ => ⟨S512x8192, .f32⟩
  | .local _ .vmem, ⟨0, _⟩ => ⟨S4096x512, .f32⟩
  | .local _ .vmem, ⟨1, _⟩ => ⟨S512x8192, .f32⟩
  | .local _ .vmem, ⟨2, _⟩ => ⟨S2x512x4096, .f32⟩
  | .local _ .vmem, ⟨3, _⟩ => ⟨S2x512x4096, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 3 → Bool
  | ⟨0, _⟩ => true
  | ⟨1, _⟩ => true
  | ⟨2, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 3 42 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14 : BitVec 32 := 1#32
  let v26 : BitVec 32 := Scalar.muli v24 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_17 : BitVec 32 := 1#32
  let v28 : BitVec 32 := Scalar.muli v13 c1_i32_17
  let v29 : BitVec 32 := Scalar.addi c0_i32_18 v28
  v29.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_19 : BitVec 32 := 1#32
  let v30 : BitVec 32 := Scalar.subi v2 c1_i32_19
  let c8_i32_20 : BitVec 32 := 8#32
  let c0_i32_21 : BitVec 32 := 0#32
  let v31 : BitVec 1 := Scalar.cmpi .eq c8_i32_20 c0_i32_21
  let c1_i32_22 : BitVec 32 := 1#32
  let v32 : BitVec 32 := Scalar.select v31 c1_i32_22 c8_i32_20
  let v33 : BitVec 32 := Scalar.remsi v30 v32
  let c0_i32_24 : BitVec 32 := 0#32
  let v35 : BitVec 1 := Scalar.cmpi .slt v33 c0_i32_24
  let c0_i32_25 : BitVec 32 := 0#32
  let v36 : BitVec 1 := Scalar.cmpi .slt v32 c0_i32_25
  let v37 : BitVec 1 := Scalar.xori v35 v36
  let c0_i32_23 : BitVec 32 := 0#32
  let v34 : BitVec 1 := Scalar.cmpi .ne v33 c0_i32_23
  let v38 : BitVec 1 := Scalar.andi v37 v34
  let v39 : BitVec 32 := Scalar.addi v33 v32
  let v40 : BitVec 32 := Scalar.select v38 v39 v33
  let c512_i32 : BitVec 32 := 512#32
  let v41 : BitVec 32 := Scalar.muli v40 c512_i32
  let v42 : Index := Scalar.indexCast v41
  let c0 : Index := 0#32
  ![v42.toNat, 0]
def k0_dev3 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_37 : BitVec 32 := 1#32
  let v51 : BitVec 32 := Scalar.muli v13 c1_i32_37
  let v52 : BitVec 32 := Scalar.addi c0_i32_38 v51
  v52.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_43 : BitVec 32 := 1#32
  let v61 : BitVec 32 := Scalar.addi v2 c1_i32_43
  let c8_i32_44 : BitVec 32 := 8#32
  let c0_i32_45 : BitVec 32 := 0#32
  let v62 : BitVec 1 := Scalar.cmpi .eq c8_i32_44 c0_i32_45
  let c1_i32_46 : BitVec 32 := 1#32
  let v63 : BitVec 32 := Scalar.select v62 c1_i32_46 c8_i32_44
  let v64 : BitVec 32 := Scalar.remsi v61 v63
  let c0_i32_48 : BitVec 32 := 0#32
  let v66 : BitVec 1 := Scalar.cmpi .slt v64 c0_i32_48
  let c0_i32_49 : BitVec 32 := 0#32
  let v67 : BitVec 1 := Scalar.cmpi .slt v63 c0_i32_49
  let v68 : BitVec 1 := Scalar.xori v66 v67
  let c0_i32_47 : BitVec 32 := 0#32
  let v65 : BitVec 1 := Scalar.cmpi .ne v64 c0_i32_47
  let v69 : BitVec 1 := Scalar.andi v68 v65
  let v70 : BitVec 32 := Scalar.addi v64 v63
  let v71 : BitVec 32 := Scalar.select v69 v70 v64
  let c512_i32_50 : BitVec 32 := 512#32
  let v72 : BitVec 32 := Scalar.muli v71 c512_i32_50
  let v73 : Index := Scalar.indexCast v72
  let c0_51 : Index := 0#32
  ![v73.toNat, 0]
def k0_dev4 (d0 : Dev nD) : Nat :=
  let c0_i32_64 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_63 : BitVec 32 := 1#32
  let v82 : BitVec 32 := Scalar.muli v24 c1_i32_63
  let v83 : BitVec 32 := Scalar.addi c0_i32_64 v82
  v83.toNat
def k0_dev5 (d0 : Dev nD) : Nat :=
  let c0_i32_90 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_89 : BitVec 32 := 1#32
  let v113 : BitVec 32 := Scalar.muli v13 c1_i32_89
  let v114 : BitVec 32 := Scalar.addi c0_i32_90 v113
  v114.toNat
def k0_dev6 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_114 : BitVec 32 := 1#32
  let v144 : BitVec 32 := Scalar.muli v24 c1_i32_114
  let v145 : BitVec 32 := Scalar.addi c0_i32_115 v144
  v145.toNat
def k0_dev7 (d0 : Dev nD) : Nat :=
  let c0_i32_141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_140 : BitVec 32 := 1#32
  let v175 : BitVec 32 := Scalar.muli v13 c1_i32_140
  let v176 : BitVec 32 := Scalar.addi c0_i32_141 v175
  v176.toNat
def k0_dev8 (d0 : Dev nD) : Nat :=
  let c0_i32_166 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_165 : BitVec 32 := 1#32
  let v206 : BitVec 32 := Scalar.muli v24 c1_i32_165
  let v207 : BitVec 32 := Scalar.addi c0_i32_166 v206
  v207.toNat
def k0_dev9 (d0 : Dev nD) : Nat :=
  let c0_i32_191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_190 : BitVec 32 := 1#32
  let v237 : BitVec 32 := Scalar.muli v13 c1_i32_190
  let v238 : BitVec 32 := Scalar.addi c0_i32_191 v237
  v238.toNat
def k0_dev10 (d0 : Dev nD) : Nat :=
  let c0_i32_216 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_215 : BitVec 32 := 1#32
  let v268 : BitVec 32 := Scalar.muli v24 c1_i32_215
  let v269 : BitVec 32 := Scalar.addi c0_i32_216 v268
  v269.toNat
def k0_dev11 (d0 : Dev nD) : Nat :=
  let c0_i32_246 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_245 : BitVec 32 := 1#32
  let v292 : BitVec 32 := Scalar.muli v24 c1_i32_245
  let v293 : BitVec 32 := Scalar.addi c0_i32_246 v292
  v293.toNat
def k0_off3 (d0 : Dev nD) (c0_i32_250 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_249 : BitVec 32 := 2#32
  let v296 : BitVec 32 := Scalar.subi v2 c2_i32_249
  let v297 : BitVec 32 := Scalar.subi v296 c0_i32_250
  let c8_i32_251 : BitVec 32 := 8#32
  let c0_i32_252 : BitVec 32 := 0#32
  let v298 : BitVec 1 := Scalar.cmpi .eq c8_i32_251 c0_i32_252
  let c1_i32_253 : BitVec 32 := 1#32
  let v299 : BitVec 32 := Scalar.select v298 c1_i32_253 c8_i32_251
  let v300 : BitVec 32 := Scalar.remsi v297 v299
  let c0_i32_255 : BitVec 32 := 0#32
  let v302 : BitVec 1 := Scalar.cmpi .slt v300 c0_i32_255
  let c0_i32_256 : BitVec 32 := 0#32
  let v303 : BitVec 1 := Scalar.cmpi .slt v299 c0_i32_256
  let v304 : BitVec 1 := Scalar.xori v302 v303
  let c0_i32_254 : BitVec 32 := 0#32
  let v301 : BitVec 1 := Scalar.cmpi .ne v300 c0_i32_254
  let v305 : BitVec 1 := Scalar.andi v304 v301
  let v306 : BitVec 32 := Scalar.addi v300 v299
  let v307 : BitVec 32 := Scalar.select v305 v306 v300
  let c512_i32_257 : BitVec 32 := 512#32
  let v308 : BitVec 32 := Scalar.muli v307 c512_i32_257
  let v309 : Index := Scalar.indexCast v308
  let c0_258 : Index := 0#32
  ![v309.toNat, 0]
def k0_dev12 (d0 : Dev nD) : Nat :=
  let c0_i32_274 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_273 : BitVec 32 := 1#32
  let v319 : BitVec 32 := Scalar.muli v13 c1_i32_273
  let v320 : BitVec 32 := Scalar.addi c0_i32_274 v319
  v320.toNat
def k0_dev13 (d0 : Dev nD) : Nat :=
  let c0_i32_304 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_303 : BitVec 32 := 1#32
  let v343 : BitVec 32 := Scalar.muli v13 c1_i32_303
  let v344 : BitVec 32 := Scalar.addi c0_i32_304 v343
  v344.toNat
def k0_off4 (d0 : Dev nD) (c0_i32_309 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_308 : BitVec 32 := 2#32
  let v347 : BitVec 32 := Scalar.addi v2 c2_i32_308
  let v348 : BitVec 32 := Scalar.addi v347 c0_i32_309
  let c8_i32_310 : BitVec 32 := 8#32
  let c0_i32_311 : BitVec 32 := 0#32
  let v349 : BitVec 1 := Scalar.cmpi .eq c8_i32_310 c0_i32_311
  let c1_i32_312 : BitVec 32 := 1#32
  let v350 : BitVec 32 := Scalar.select v349 c1_i32_312 c8_i32_310
  let v351 : BitVec 32 := Scalar.remsi v348 v350
  let c0_i32_314 : BitVec 32 := 0#32
  let v353 : BitVec 1 := Scalar.cmpi .slt v351 c0_i32_314
  let c0_i32_315 : BitVec 32 := 0#32
  let v354 : BitVec 1 := Scalar.cmpi .slt v350 c0_i32_315
  let v355 : BitVec 1 := Scalar.xori v353 v354
  let c0_i32_313 : BitVec 32 := 0#32
  let v352 : BitVec 1 := Scalar.cmpi .ne v351 c0_i32_313
  let v356 : BitVec 1 := Scalar.andi v355 v352
  let v357 : BitVec 32 := Scalar.addi v351 v350
  let v358 : BitVec 32 := Scalar.select v356 v357 v351
  let c512_i32_316 : BitVec 32 := 512#32
  let v359 : BitVec 32 := Scalar.muli v358 c512_i32_316
  let v360 : Index := Scalar.indexCast v359
  let c0_317 : Index := 0#32
  ![v360.toNat, 0]
def k0_dev14 (d0 : Dev nD) : Nat :=
  let c0_i32_333 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_332 : BitVec 32 := 1#32
  let v370 : BitVec 32 := Scalar.muli v24 c1_i32_332
  let v371 : BitVec 32 := Scalar.addi c0_i32_333 v370
  v371.toNat
def k0_dev15 (d0 : Dev nD) : Nat :=
  let c0_i32_363 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_362 : BitVec 32 := 1#32
  let v394 : BitVec 32 := Scalar.muli v24 c1_i32_362
  let v395 : BitVec 32 := Scalar.addi c0_i32_363 v394
  v395.toNat
def k0_dev16 (d0 : Dev nD) : Nat :=
  let c0_i32_392 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_391 : BitVec 32 := 1#32
  let v421 : BitVec 32 := Scalar.muli v13 c1_i32_391
  let v422 : BitVec 32 := Scalar.addi c0_i32_392 v421
  v422.toNat
def k0_dev17 (d0 : Dev nD) : Nat :=
  let c0_i32_422 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_421 : BitVec 32 := 1#32
  let v445 : BitVec 32 := Scalar.muli v13 c1_i32_421
  let v446 : BitVec 32 := Scalar.addi c0_i32_422 v445
  v446.toNat
def k0_dev18 (d0 : Dev nD) : Nat :=
  let c0_i32_451 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_450 : BitVec 32 := 1#32
  let v472 : BitVec 32 := Scalar.muli v24 c1_i32_450
  let v473 : BitVec 32 := Scalar.addi c0_i32_451 v472
  v473.toNat
def k0_dev19 (d0 : Dev nD) : Nat :=
  let c0_i32_481 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_480 : BitVec 32 := 1#32
  let v496 : BitVec 32 := Scalar.muli v24 c1_i32_480
  let v497 : BitVec 32 := Scalar.addi c0_i32_481 v496
  v497.toNat
def k0_dev20 (d0 : Dev nD) : Nat :=
  let c0_i32_510 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_509 : BitVec 32 := 1#32
  let v523 : BitVec 32 := Scalar.muli v13 c1_i32_509
  let v524 : BitVec 32 := Scalar.addi c0_i32_510 v523
  v524.toNat
def k0_dev21 (d0 : Dev nD) : Nat :=
  let c0_i32_540 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_539 : BitVec 32 := 1#32
  let v547 : BitVec 32 := Scalar.muli v13 c1_i32_539
  let v548 : BitVec 32 := Scalar.addi c0_i32_540 v547
  v548.toNat
def k0_dev22 (d0 : Dev nD) : Nat :=
  let c0_i32_569 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_568 : BitVec 32 := 1#32
  let v574 : BitVec 32 := Scalar.muli v24 c1_i32_568
  let v575 : BitVec 32 := Scalar.addi c0_i32_569 v574
  v575.toNat
def k0_dev23 (d0 : Dev nD) : Nat :=
  let c0_i32_599 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_598 : BitVec 32 := 1#32
  let v598 : BitVec 32 := Scalar.muli v24 c1_i32_598
  let v599 : BitVec 32 := Scalar.addi c0_i32_599 v598
  v599.toNat
def k0_dev24 (d0 : Dev nD) : Nat :=
  let c0_i32_628 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_627 : BitVec 32 := 1#32
  let v625 : BitVec 32 := Scalar.muli v13 c1_i32_627
  let v626 : BitVec 32 := Scalar.addi c0_i32_628 v625
  v626.toNat
def k0_dev25 (d0 : Dev nD) : Nat :=
  let c0_i32_658 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_657 : BitVec 32 := 1#32
  let v649 : BitVec 32 := Scalar.muli v13 c1_i32_657
  let v650 : BitVec 32 := Scalar.addi c0_i32_658 v649
  v650.toNat
def k0_dev26 (d0 : Dev nD) : Nat :=
  let c0_i32_687 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_686 : BitVec 32 := 1#32
  let v676 : BitVec 32 := Scalar.muli v24 c1_i32_686
  let v677 : BitVec 32 := Scalar.addi c0_i32_687 v676
  v677.toNat
def k0_dev27 (d0 : Dev nD) : Nat :=
  let c0_i32_717 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_716 : BitVec 32 := 1#32
  let v700 : BitVec 32 := Scalar.muli v24 c1_i32_716
  let v701 : BitVec 32 := Scalar.addi c0_i32_717 v700
  v701.toNat
def k0_dev28 (d0 : Dev nD) : Nat :=
  let c0_i32_746 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_745 : BitVec 32 := 1#32
  let v727 : BitVec 32 := Scalar.muli v13 c1_i32_745
  let v728 : BitVec 32 := Scalar.addi c0_i32_746 v727
  v728.toNat
def k0_dev29 (d0 : Dev nD) : Nat :=
  let c0_i32_776 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_775 : BitVec 32 := 1#32
  let v751 : BitVec 32 := Scalar.muli v13 c1_i32_775
  let v752 : BitVec 32 := Scalar.addi c0_i32_776 v751
  v752.toNat
def k0_dev30 (d0 : Dev nD) : Nat :=
  let c0_i32_805 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_804 : BitVec 32 := 1#32
  let v778 : BitVec 32 := Scalar.muli v24 c1_i32_804
  let v779 : BitVec 32 := Scalar.addi c0_i32_805 v778
  v779.toNat
def k0_dev31 (d0 : Dev nD) : Nat :=
  let c0_i32_835 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_834 : BitVec 32 := 1#32
  let v802 : BitVec 32 := Scalar.muli v24 c1_i32_834
  let v803 : BitVec 32 := Scalar.addi c0_i32_835 v802
  v803.toNat
def k0_dev32 (d0 : Dev nD) : Nat :=
  let c0_i32_864 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_863 : BitVec 32 := 1#32
  let v829 : BitVec 32 := Scalar.muli v13 c1_i32_863
  let v830 : BitVec 32 := Scalar.addi c0_i32_864 v829
  v830.toNat
def k0_dev33 (d0 : Dev nD) : Nat :=
  let c0_i32_894 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_893 : BitVec 32 := 1#32
  let v853 : BitVec 32 := Scalar.muli v13 c1_i32_893
  let v854 : BitVec 32 := Scalar.addi c0_i32_894 v853
  v854.toNat
def k0_dev34 (d0 : Dev nD) : Nat :=
  let c0_i32_923 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_922 : BitVec 32 := 1#32
  let v880 : BitVec 32 := Scalar.muli v24 c1_i32_922
  let v881 : BitVec 32 := Scalar.addi c0_i32_923 v880
  v881.toNat
def k0_dev35 (d0 : Dev nD) : Nat :=
  let c0_i32_953 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_952 : BitVec 32 := 1#32
  let v904 : BitVec 32 := Scalar.muli v24 c1_i32_952
  let v905 : BitVec 32 := Scalar.addi c0_i32_953 v904
  v905.toNat
def k0_dev36 (d0 : Dev nD) : Nat :=
  let c0_i32_982 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_981 : BitVec 32 := 1#32
  let v931 : BitVec 32 := Scalar.muli v13 c1_i32_981
  let v932 : BitVec 32 := Scalar.addi c0_i32_982 v931
  v932.toNat
def k0_dev37 (d0 : Dev nD) : Nat :=
  let c0_i32_1012 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1011 : BitVec 32 := 1#32
  let v955 : BitVec 32 := Scalar.muli v13 c1_i32_1011
  let v956 : BitVec 32 := Scalar.addi c0_i32_1012 v955
  v956.toNat
def k0_dev38 (d0 : Dev nD) : Nat :=
  let c0_i32_1041 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1040 : BitVec 32 := 1#32
  let v982 : BitVec 32 := Scalar.muli v24 c1_i32_1040
  let v983 : BitVec 32 := Scalar.addi c0_i32_1041 v982
  v983.toNat
def k0_dev39 (d0 : Dev nD) : Nat :=
  let c0_i32_1071 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1070 : BitVec 32 := 1#32
  let v1006 : BitVec 32 := Scalar.muli v24 c1_i32_1070
  let v1007 : BitVec 32 := Scalar.addi c0_i32_1071 v1006
  v1007.toNat
def k0_dev40 (d0 : Dev nD) : Nat :=
  let c0_i32_1100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1099 : BitVec 32 := 1#32
  let v1033 : BitVec 32 := Scalar.muli v13 c1_i32_1099
  let v1034 : BitVec 32 := Scalar.addi c0_i32_1100 v1033
  v1034.toNat
def k0_dev41 (d0 : Dev nD) : Nat :=
  let c0_i32_1130 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1129 : BitVec 32 := 1#32
  let v1057 : BitVec 32 := Scalar.muli v13 c1_i32_1129
  let v1058 : BitVec 32 := Scalar.addi c0_i32_1130 v1057
  v1058.toNat
def k0_dev42 (d0 : Dev nD) : Nat :=
  let c0_i32_1159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1158 : BitVec 32 := 1#32
  let v1084 : BitVec 32 := Scalar.muli v24 c1_i32_1158
  let v1085 : BitVec 32 := Scalar.addi c0_i32_1159 v1084
  v1085.toNat
def k0_dev43 (d0 : Dev nD) : Nat :=
  let c0_i32_1189 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1188 : BitVec 32 := 1#32
  let v1108 : BitVec 32 := Scalar.muli v24 c1_i32_1188
  let v1109 : BitVec 32 := Scalar.addi c0_i32_1189 v1108
  v1109.toNat
def k0_dev44 (d0 : Dev nD) : Nat :=
  let c0_i32_1218 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1217 : BitVec 32 := 1#32
  let v1135 : BitVec 32 := Scalar.muli v13 c1_i32_1217
  let v1136 : BitVec 32 := Scalar.addi c0_i32_1218 v1135
  v1136.toNat
def k0_dev45 (d0 : Dev nD) : Nat :=
  let c0_i32_1248 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1247 : BitVec 32 := 1#32
  let v1159 : BitVec 32 := Scalar.muli v13 c1_i32_1247
  let v1160 : BitVec 32 := Scalar.addi c0_i32_1248 v1159
  v1160.toNat
def k0_dev46 (d0 : Dev nD) : Nat :=
  let c0_i32_1277 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1276 : BitVec 32 := 1#32
  let v1186 : BitVec 32 := Scalar.muli v24 c1_i32_1276
  let v1187 : BitVec 32 := Scalar.addi c0_i32_1277 v1186
  v1187.toNat
def k0_dev47 (d0 : Dev nD) : Nat :=
  let c0_i32_1307 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1306 : BitVec 32 := 1#32
  let v1210 : BitVec 32 := Scalar.muli v24 c1_i32_1306
  let v1211 : BitVec 32 := Scalar.addi c0_i32_1307 v1210
  v1211.toNat
def k0_dev48 (d0 : Dev nD) : Nat :=
  let c0_i32_1336 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1335 : BitVec 32 := 1#32
  let v1237 : BitVec 32 := Scalar.muli v13 c1_i32_1335
  let v1238 : BitVec 32 := Scalar.addi c0_i32_1336 v1237
  v1238.toNat
def k0_dev49 (d0 : Dev nD) : Nat :=
  let c0_i32_1366 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1365 : BitVec 32 := 1#32
  let v1261 : BitVec 32 := Scalar.muli v13 c1_i32_1365
  let v1262 : BitVec 32 := Scalar.addi c0_i32_1366 v1261
  v1262.toNat
def k0_dev50 (d0 : Dev nD) : Nat :=
  let c0_i32_1395 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1394 : BitVec 32 := 1#32
  let v1288 : BitVec 32 := Scalar.muli v24 c1_i32_1394
  let v1289 : BitVec 32 := Scalar.addi c0_i32_1395 v1288
  v1289.toNat
def k0_dev51 (d0 : Dev nD) : Nat :=
  let c0_i32_1425 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1424 : BitVec 32 := 1#32
  let v1312 : BitVec 32 := Scalar.muli v24 c1_i32_1424
  let v1313 : BitVec 32 := Scalar.addi c0_i32_1425 v1312
  v1313.toNat
def k0_dev52 (d0 : Dev nD) : Nat :=
  let c0_i32_1454 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1453 : BitVec 32 := 1#32
  let v1339 : BitVec 32 := Scalar.muli v13 c1_i32_1453
  let v1340 : BitVec 32 := Scalar.addi c0_i32_1454 v1339
  v1340.toNat
def k0_dev53 (d0 : Dev nD) : Nat :=
  let c0_i32_1484 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1483 : BitVec 32 := 1#32
  let v1363 : BitVec 32 := Scalar.muli v13 c1_i32_1483
  let v1364 : BitVec 32 := Scalar.addi c0_i32_1484 v1363
  v1364.toNat
def k0_dev54 (d0 : Dev nD) : Nat :=
  let c0_i32_1513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1512 : BitVec 32 := 1#32
  let v1390 : BitVec 32 := Scalar.muli v24 c1_i32_1512
  let v1391 : BitVec 32 := Scalar.addi c0_i32_1513 v1390
  v1391.toNat
def k0_dev55 (d0 : Dev nD) : Nat :=
  let c0_i32_1543 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1542 : BitVec 32 := 1#32
  let v1414 : BitVec 32 := Scalar.muli v24 c1_i32_1542
  let v1415 : BitVec 32 := Scalar.addi c0_i32_1543 v1414
  v1415.toNat
def k0_dev56 (d0 : Dev nD) : Nat :=
  let c0_i32_1572 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1571 : BitVec 32 := 1#32
  let v1441 : BitVec 32 := Scalar.muli v13 c1_i32_1571
  let v1442 : BitVec 32 := Scalar.addi c0_i32_1572 v1441
  v1442.toNat
def k0_dev57 (d0 : Dev nD) : Nat :=
  let c0_i32_1602 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1601 : BitVec 32 := 1#32
  let v1465 : BitVec 32 := Scalar.muli v13 c1_i32_1601
  let v1466 : BitVec 32 := Scalar.addi c0_i32_1602 v1465
  v1466.toNat
def k0_dev58 (d0 : Dev nD) : Nat :=
  let c0_i32_1631 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1630 : BitVec 32 := 1#32
  let v1492 : BitVec 32 := Scalar.muli v24 c1_i32_1630
  let v1493 : BitVec 32 := Scalar.addi c0_i32_1631 v1492
  v1493.toNat
def k0_dev59 (d0 : Dev nD) : Nat :=
  let c0_i32_1661 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1660 : BitVec 32 := 1#32
  let v1516 : BitVec 32 := Scalar.muli v24 c1_i32_1660
  let v1517 : BitVec 32 := Scalar.addi c0_i32_1661 v1516
  v1517.toNat
def k0_dev60 (d0 : Dev nD) : Nat :=
  let c0_i32_1690 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1689 : BitVec 32 := 1#32
  let v1543 : BitVec 32 := Scalar.muli v13 c1_i32_1689
  let v1544 : BitVec 32 := Scalar.addi c0_i32_1690 v1543
  v1544.toNat
def k0_dev61 (d0 : Dev nD) : Nat :=
  let c0_i32_1720 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1719 : BitVec 32 := 1#32
  let v1567 : BitVec 32 := Scalar.muli v13 c1_i32_1719
  let v1568 : BitVec 32 := Scalar.addi c0_i32_1720 v1567
  v1568.toNat
def k0_dev62 (d0 : Dev nD) : Nat :=
  let c0_i32_1749 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1748 : BitVec 32 := 1#32
  let v1594 : BitVec 32 := Scalar.muli v24 c1_i32_1748
  let v1595 : BitVec 32 := Scalar.addi c0_i32_1749 v1594
  v1595.toNat
def k0_dev63 (d0 : Dev nD) : Nat :=
  let c0_i32_1779 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1778 : BitVec 32 := 1#32
  let v1618 : BitVec 32 := Scalar.muli v24 c1_i32_1778
  let v1619 : BitVec 32 := Scalar.addi c0_i32_1779 v1618
  v1619.toNat
def k0_dev64 (d0 : Dev nD) : Nat :=
  let c0_i32_1808 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1807 : BitVec 32 := 1#32
  let v1645 : BitVec 32 := Scalar.muli v13 c1_i32_1807
  let v1646 : BitVec 32 := Scalar.addi c0_i32_1808 v1645
  v1646.toNat
def k0_dev65 (d0 : Dev nD) : Nat :=
  let c0_i32_1838 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1837 : BitVec 32 := 1#32
  let v1669 : BitVec 32 := Scalar.muli v13 c1_i32_1837
  let v1670 : BitVec 32 := Scalar.addi c0_i32_1838 v1669
  v1670.toNat
def k0_dev66 (d0 : Dev nD) : Nat :=
  let c0_i32_1867 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1866 : BitVec 32 := 1#32
  let v1696 : BitVec 32 := Scalar.muli v24 c1_i32_1866
  let v1697 : BitVec 32 := Scalar.addi c0_i32_1867 v1696
  v1697.toNat
def k0_dev67 (d0 : Dev nD) : Nat :=
  let c0_i32_1897 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1896 : BitVec 32 := 1#32
  let v1720 : BitVec 32 := Scalar.muli v24 c1_i32_1896
  let v1721 : BitVec 32 := Scalar.addi c0_i32_1897 v1720
  v1721.toNat
def k0_dev68 (d0 : Dev nD) : Nat :=
  let c0_i32_1926 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1925 : BitVec 32 := 1#32
  let v1747 : BitVec 32 := Scalar.muli v13 c1_i32_1925
  let v1748 : BitVec 32 := Scalar.addi c0_i32_1926 v1747
  v1748.toNat
def k0_dev69 (d0 : Dev nD) : Nat :=
  let c0_i32_1956 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1955 : BitVec 32 := 1#32
  let v1771 : BitVec 32 := Scalar.muli v13 c1_i32_1955
  let v1772 : BitVec 32 := Scalar.addi c0_i32_1956 v1771
  v1772.toNat
def k0_dev70 (d0 : Dev nD) : Nat :=
  let c0_i32_1985 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1984 : BitVec 32 := 1#32
  let v1798 : BitVec 32 := Scalar.muli v24 c1_i32_1984
  let v1799 : BitVec 32 := Scalar.addi c0_i32_1985 v1798
  v1799.toNat
def k0_dev71 (d0 : Dev nD) : Nat :=
  let c0_i32_2015 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2014 : BitVec 32 := 1#32
  let v1822 : BitVec 32 := Scalar.muli v24 c1_i32_2014
  let v1823 : BitVec 32 := Scalar.addi c0_i32_2015 v1822
  v1823.toNat
def k0_dev72 (d0 : Dev nD) : Nat :=
  let c0_i32_2044 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2043 : BitVec 32 := 1#32
  let v1849 : BitVec 32 := Scalar.muli v13 c1_i32_2043
  let v1850 : BitVec 32 := Scalar.addi c0_i32_2044 v1849
  v1850.toNat
def k0_dev73 (d0 : Dev nD) : Nat :=
  let c0_i32_2074 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2073 : BitVec 32 := 1#32
  let v1873 : BitVec 32 := Scalar.muli v13 c1_i32_2073
  let v1874 : BitVec 32 := Scalar.addi c0_i32_2074 v1873
  v1874.toNat
def k0_dev74 (d0 : Dev nD) : Nat :=
  let c0_i32_2103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2102 : BitVec 32 := 1#32
  let v1900 : BitVec 32 := Scalar.muli v24 c1_i32_2102
  let v1901 : BitVec 32 := Scalar.addi c0_i32_2103 v1900
  v1901.toNat
def k0_dev75 (d0 : Dev nD) : Nat :=
  let c0_i32_2133 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2132 : BitVec 32 := 1#32
  let v1924 : BitVec 32 := Scalar.muli v24 c1_i32_2132
  let v1925 : BitVec 32 := Scalar.addi c0_i32_2133 v1924
  v1925.toNat
def k0_dev76 (d0 : Dev nD) : Nat :=
  let c0_i32_2161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2160 : BitVec 32 := 1#32
  let v1951 : BitVec 32 := Scalar.muli v13 c1_i32_2160
  let v1952 : BitVec 32 := Scalar.addi c0_i32_2161 v1951
  v1952.toNat
def k0_dev77 (d0 : Dev nD) : Nat :=
  let c0_i32_2191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2190 : BitVec 32 := 1#32
  let v1975 : BitVec 32 := Scalar.muli v13 c1_i32_2190
  let v1976 : BitVec 32 := Scalar.addi c0_i32_2191 v1975
  v1976.toNat
def k0_dev78 (d0 : Dev nD) : Nat :=
  let c0_i32_2220 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2219 : BitVec 32 := 1#32
  let v2002 : BitVec 32 := Scalar.muli v24 c1_i32_2219
  let v2003 : BitVec 32 := Scalar.addi c0_i32_2220 v2002
  v2003.toNat
def k0_dev79 (d0 : Dev nD) : Nat :=
  let c0_i32_2250 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2249 : BitVec 32 := 1#32
  let v2026 : BitVec 32 := Scalar.muli v24 c1_i32_2249
  let v2027 : BitVec 32 := Scalar.addi c0_i32_2250 v2026
  v2027.toNat
def k0_dev80 (d0 : Dev nD) : Nat :=
  let c0_i32_2279 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2278 : BitVec 32 := 1#32
  let v2053 : BitVec 32 := Scalar.muli v13 c1_i32_2278
  let v2054 : BitVec 32 := Scalar.addi c0_i32_2279 v2053
  v2054.toNat
def k0_dev81 (d0 : Dev nD) : Nat :=
  let c0_i32_2309 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2308 : BitVec 32 := 1#32
  let v2077 : BitVec 32 := Scalar.muli v13 c1_i32_2308
  let v2078 : BitVec 32 := Scalar.addi c0_i32_2309 v2077
  v2078.toNat
def k0_dev82 (d0 : Dev nD) : Nat :=
  let c0_i32_2338 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2337 : BitVec 32 := 1#32
  let v2104 : BitVec 32 := Scalar.muli v24 c1_i32_2337
  let v2105 : BitVec 32 := Scalar.addi c0_i32_2338 v2104
  v2105.toNat
def k0_dev83 (d0 : Dev nD) : Nat :=
  let c0_i32_2368 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2367 : BitVec 32 := 1#32
  let v2128 : BitVec 32 := Scalar.muli v24 c1_i32_2367
  let v2129 : BitVec 32 := Scalar.addi c0_i32_2368 v2128
  v2129.toNat
def k0_dev84 (d0 : Dev nD) : Nat :=
  let c0_i32_2397 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2396 : BitVec 32 := 1#32
  let v2155 : BitVec 32 := Scalar.muli v13 c1_i32_2396
  let v2156 : BitVec 32 := Scalar.addi c0_i32_2397 v2155
  v2156.toNat
def k0_dev85 (d0 : Dev nD) : Nat :=
  let c0_i32_2427 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2426 : BitVec 32 := 1#32
  let v2179 : BitVec 32 := Scalar.muli v13 c1_i32_2426
  let v2180 : BitVec 32 := Scalar.addi c0_i32_2427 v2179
  v2180.toNat
def k0_dev86 (d0 : Dev nD) : Nat :=
  let c0_i32_2456 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2455 : BitVec 32 := 1#32
  let v2206 : BitVec 32 := Scalar.muli v24 c1_i32_2455
  let v2207 : BitVec 32 := Scalar.addi c0_i32_2456 v2206
  v2207.toNat
def k0_dev87 (d0 : Dev nD) : Nat :=
  let c0_i32_2486 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2485 : BitVec 32 := 1#32
  let v2230 : BitVec 32 := Scalar.muli v24 c1_i32_2485
  let v2231 : BitVec 32 := Scalar.addi c0_i32_2486 v2230
  v2231.toNat
def k0_dev88 (d0 : Dev nD) : Nat :=
  let c0_i32_2515 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2514 : BitVec 32 := 1#32
  let v2257 : BitVec 32 := Scalar.muli v13 c1_i32_2514
  let v2258 : BitVec 32 := Scalar.addi c0_i32_2515 v2257
  v2258.toNat
def k0_dev89 (d0 : Dev nD) : Nat :=
  let c0_i32_2545 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2544 : BitVec 32 := 1#32
  let v2281 : BitVec 32 := Scalar.muli v13 c1_i32_2544
  let v2282 : BitVec 32 := Scalar.addi c0_i32_2545 v2281
  v2282.toNat
def k0_dev90 (d0 : Dev nD) : Nat :=
  let c0_i32_2574 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2573 : BitVec 32 := 1#32
  let v2308 : BitVec 32 := Scalar.muli v24 c1_i32_2573
  let v2309 : BitVec 32 := Scalar.addi c0_i32_2574 v2308
  v2309.toNat
def k0_dev91 (d0 : Dev nD) : Nat :=
  let c0_i32_2604 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2603 : BitVec 32 := 1#32
  let v2332 : BitVec 32 := Scalar.muli v24 c1_i32_2603
  let v2333 : BitVec 32 := Scalar.addi c0_i32_2604 v2332
  v2333.toNat
def k0_dev92 (d0 : Dev nD) : Nat :=
  let c0_i32_2632 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2631 : BitVec 32 := 1#32
  let v2359 : BitVec 32 := Scalar.muli v13 c1_i32_2631
  let v2360 : BitVec 32 := Scalar.addi c0_i32_2632 v2359
  v2360.toNat
def k0_dev93 (d0 : Dev nD) : Nat :=
  let c0_i32_2662 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2661 : BitVec 32 := 1#32
  let v2383 : BitVec 32 := Scalar.muli v13 c1_i32_2661
  let v2384 : BitVec 32 := Scalar.addi c0_i32_2662 v2383
  v2384.toNat
def k0_dev94 (d0 : Dev nD) : Nat :=
  let c0_i32_2691 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2690 : BitVec 32 := 1#32
  let v2410 : BitVec 32 := Scalar.muli v24 c1_i32_2690
  let v2411 : BitVec 32 := Scalar.addi c0_i32_2691 v2410
  v2411.toNat
def k0_dev95 (d0 : Dev nD) : Nat :=
  let c0_i32_2721 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2720 : BitVec 32 := 1#32
  let v2434 : BitVec 32 := Scalar.muli v24 c1_i32_2720
  let v2435 : BitVec 32 := Scalar.addi c0_i32_2721 v2434
  v2435.toNat
def k0_dev96 (d0 : Dev nD) : Nat :=
  let c0_i32_2750 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2749 : BitVec 32 := 1#32
  let v2461 : BitVec 32 := Scalar.muli v13 c1_i32_2749
  let v2462 : BitVec 32 := Scalar.addi c0_i32_2750 v2461
  v2462.toNat
def k0_dev97 (d0 : Dev nD) : Nat :=
  let c0_i32_2780 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2779 : BitVec 32 := 1#32
  let v2485 : BitVec 32 := Scalar.muli v13 c1_i32_2779
  let v2486 : BitVec 32 := Scalar.addi c0_i32_2780 v2485
  v2486.toNat
def k0_dev98 (d0 : Dev nD) : Nat :=
  let c0_i32_2809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2808 : BitVec 32 := 1#32
  let v2512 : BitVec 32 := Scalar.muli v24 c1_i32_2808
  let v2513 : BitVec 32 := Scalar.addi c0_i32_2809 v2512
  v2513.toNat
def k0_dev99 (d0 : Dev nD) : Nat :=
  let c0_i32_2839 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2838 : BitVec 32 := 1#32
  let v2536 : BitVec 32 := Scalar.muli v24 c1_i32_2838
  let v2537 : BitVec 32 := Scalar.addi c0_i32_2839 v2536
  v2537.toNat
def k0_dev100 (d0 : Dev nD) : Nat :=
  let c0_i32_2868 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2867 : BitVec 32 := 1#32
  let v2563 : BitVec 32 := Scalar.muli v13 c1_i32_2867
  let v2564 : BitVec 32 := Scalar.addi c0_i32_2868 v2563
  v2564.toNat
def k0_dev101 (d0 : Dev nD) : Nat :=
  let c0_i32_2898 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2897 : BitVec 32 := 1#32
  let v2587 : BitVec 32 := Scalar.muli v13 c1_i32_2897
  let v2588 : BitVec 32 := Scalar.addi c0_i32_2898 v2587
  v2588.toNat
def k0_dev102 (d0 : Dev nD) : Nat :=
  let c0_i32_2927 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2926 : BitVec 32 := 1#32
  let v2614 : BitVec 32 := Scalar.muli v24 c1_i32_2926
  let v2615 : BitVec 32 := Scalar.addi c0_i32_2927 v2614
  v2615.toNat
def k0_dev103 (d0 : Dev nD) : Nat :=
  let c0_i32_2957 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2956 : BitVec 32 := 1#32
  let v2638 : BitVec 32 := Scalar.muli v24 c1_i32_2956
  let v2639 : BitVec 32 := Scalar.addi c0_i32_2957 v2638
  v2639.toNat
def k0_dev104 (d0 : Dev nD) : Nat :=
  let c0_i32_2986 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2985 : BitVec 32 := 1#32
  let v2665 : BitVec 32 := Scalar.muli v13 c1_i32_2985
  let v2666 : BitVec 32 := Scalar.addi c0_i32_2986 v2665
  v2666.toNat
def k0_dev105 (d0 : Dev nD) : Nat :=
  let c0_i32_3016 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3015 : BitVec 32 := 1#32
  let v2689 : BitVec 32 := Scalar.muli v13 c1_i32_3015
  let v2690 : BitVec 32 := Scalar.addi c0_i32_3016 v2689
  v2690.toNat
def k0_dev106 (d0 : Dev nD) : Nat :=
  let c0_i32_3045 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3044 : BitVec 32 := 1#32
  let v2716 : BitVec 32 := Scalar.muli v24 c1_i32_3044
  let v2717 : BitVec 32 := Scalar.addi c0_i32_3045 v2716
  v2717.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_3076 : BitVec 32 := 512#32
  let v2742 : BitVec 32 := Scalar.muli v2 c512_i32_3076
  let v2743 : Index := Scalar.indexCast v2742
  let c0_3077 : Index := 0#32
  ![v2743.toNat, 0]
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Kernel.BodyEq.lean ====
module

public import proofs.«01_k».proof.Proof.Kernel.Stages
public import Idealize.ShloMosaic.Lib.Pipeline.Regions

@[expose] public section

noncomputable section

namespace Cert.Kernel.Ring

open Idealize.ShloMosaic Idealize.ShloMosaic.TcCoe Idealize.SL.Sem
open Cert.Kernel Cert.Kernel.Gen

variable {F : FTy → Type} [FloatOps F]

set_option maxRecDepth 100000 in
set_option maxHeartbeats 0 in
/-- The kernel's body is the stages in order. -/
theorem body_eq : cc0_body (F := F) stg0 (Memref.isWhole_whole _) stg1 (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 = ringBody := by
  chain_rfl

end Cert.Kernel.Ring

end
-- ==== Proof.KernelIdeal.Stages.lean ====
/-
  The kernel's body as a sequence of stages. One stage handles one piece of the traveling partial sums: a
  direction `b` (`false`: the clockwise half, columns 0 .. 4095; `true`: the counter-clockwise half, columns
  4096 .. 8191) and a column piece `k` of 1024 columns. A sweep runs the eight (piece, direction) pairs in the
  kernel's order.
-/
module

public import proofs.«01_k».proof.Proof.Gen.KernelIdeal.Skeleton

@[expose] public section

noncomputable section

namespace Cert.KernelIdeal.Ring

open Idealize.ShloMosaic Idealize.ShloMosaic.TcCoe Idealize.SL.Sem
open Cert.KernelIdeal Cert.KernelIdeal.Gen

variable {F : FTy → Type} [FloatOps F]

/-- A program of the body. -/
abbrev Body (F : FTy → Type) [FloatOps F] (α : Type) := Prog (TpuEff nD τ sig (Elt F) Λ₀ .tc) α

/-! ## The rectangles and the cells of a stage -/

/-- A piece lies within its scratch buffer, -/
theorem piece_inb (p : Fin 2) (k : Fin 4) :
    ∀ a, (![p.val, 0, 1024 * k.val] : Fin 3 → Nat) a + S1x512x1024.size a ≤ S2x512x4096.size a := by
  revert p k; decide

/-- Column piece `k` of slot `p` of a scratch buffer. -/
abbrev pieceRect (p : Fin 2) (k : Fin 4) : Rect S2x512x4096 :=
  Rect.unit (s := S2x512x4096) ![p.val, 0, 1024 * k.val] S1x512x1024.size (piece_inb p k)

/-- its columns within the weights' block and the result, -/
theorem cols_inb (b : Bool) (k : Fin 4) :
    ∀ a, (![0, 4096 * b.toNat + 1024 * k.val] : Fin 2 → Nat) a + S512x1024.size a ≤ S512x8192.size a := by
  revert b k; decide

/-- The 1024 columns a stage works on, of the weights' block and of the result. -/
abbrev colsRect (b : Bool) (k : Fin 4) : Rect S512x8192 :=
  Rect.unit (s := S512x8192) ![0, 4096 * b.toNat + 1024 * k.val] S512x1024.size (cols_inb b k)

/-- and its counter within the table. -/
theorem cell_inb (p : Fin 2) (k : Fin 4) : ∀ a, (![p.val, k.val] : Fin 2 → Nat) a + S1x1.size a ≤ S2x4.size a := by
  revert p k; decide

/-- Cell `(p, k)` of a table of semaphores. -/
abbrev cellAt (tab : DmaSems sig S2x4) (p : Fin 2) (k : Fin 4) : DmaSem sig :=
  ((tab.slice (Rect.unit (s := S2x4) ![p.val, k.val] S1x1.size (cell_inb p k))).squeeze S_ squeezes_S1x1_S_).sem

/-- The scratch buffer of a direction. -/
abbrev scratch : Bool → Memref sig .tc .vmem S2x512x4096 .f32
  | false => Memref.whole cc0_scratch0
  | true => Memref.whole cc0_scratch1
/-- The counters of the transfers sent, by direction, -/
abbrev sendTab : Bool → DmaSems sig S2x4
  | false => cc0_scratch2
  | true => cc0_scratch4
/-- and of those received. -/
abbrev recvTab : Bool → DmaSems sig S2x4
  | false => cc0_scratch3
  | true => cc0_scratch5
/-- The credit semaphore of a direction. -/
abbrev creditSem : Bool → Sem sig
  | false => cc0_scratch6.sem
  | true => cc0_scratch7.sem
/-- The barrier semaphore. -/
abbrev barSem : Sem sig := (SemArray.scalar (sig.barrier 0 rfl) : Sems sig S_).sem

/-- The row of the result's completion cells a direction uses. -/
abbrev outRow : Bool → Fin 2
  | false => 0
  | true => 1

/-- A piece as the transfers name it. -/
abbrev piece (b : Bool) (p : Fin 2) (k : Fin 4) : Memref sig .tc .vmem S512x1024 .f32 :=
  ((scratch b).slice (pieceRect p k) (fun _ => rfl)).squeeze S512x1024 squeezes_S1x512x1024_S512x1024
/-- A stage's columns of the result. -/
abbrev outPiece (b : Bool) (k : Fin 4) : Memref sig .tc .hbm S512x1024 .f32 :=
  (Memref.whole main_v1).slice (colsRect b k) (fun _ => rfl)

/-- The neighbour a direction sends to. -/
abbrev sendDev : Bool → Dev nD → Dev nD
  | false, d => ⟨k0_dev3 d, k0_dev3_lt d⟩
  | true, d => ⟨k0_dev4 d, k0_dev4_lt d⟩
/-- The neighbour a direction receives from, to which it grants credit. -/
abbrev creditDev : Bool → Dev nD → Dev nD
  | false, d => ⟨k0_dev1 d, k0_dev1_lt d⟩
  | true, d => ⟨k0_dev2 d, k0_dev2_lt d⟩

/-- Where the rows of the activations multiplied in the first stage start. -/
abbrev offI : Bool → Dev nD → Fin 2 → Nat
  | false, d => k0_off1 d
  | true, d => k0_off2 d
/-- They lie within the activations' block. -/
theorem offI_inb : ∀ b d a, offI b d a + S512x512.size a ≤ S4096x512.size a
  | false, d => k0_off1_inb d
  | true, d => k0_off2_inb d
/-- Where the rows multiplied in middle stage `s` start. -/
abbrev offM : Bool → Fin 6 → Dev nD → Fin 2 → Nat
  | false, s, d => k0_off3 d (BitVec.ofNat 32 s.val)
  | true, s, d => k0_off4 d (BitVec.ofNat 32 s.val)
/-- They lie within it too. -/
theorem offM_inb : ∀ b s d a, offM b s d a + S512x512.size a ≤ S4096x512.size a
  | false, s, d => k0_off3_inb d s
  | true, s, d => k0_off4_inb d s

/-- The slot that transfer `n` of a piece leaves from. -/
abbrev par (n : Nat) : Fin 2 := ⟨n % 2, Nat.mod_lt _ (by decide)⟩
/-- Middle stage `n` as the kernel counts it. -/
abbrev stageNo (n : Nat) : Fin 6 := ⟨n % 6, Nat.mod_lt _ (by decide)⟩

/-! ## The vectors a stage stores -/

/-- The product of a block of rows with a block of columns. -/
abbrev prod (x : Vec F S512x512 .f32) (w : Vec F S512x1024 .f32) : FVec F S512x1024 .f32 :=
  matmul dot_S512x512_S512x1024_S512x1024_1_0_0_1_n_n none (shapeCast S512x512 x shapeCasts_S512x512_S512x512)
    (shapeCast S512x1024 w shapeCasts_S512x1024_S512x1024) (constant S512x1024 .f32 0x00000000#32)
/-- What the first stage stores. -/
abbrev payI (x : Vec F S512x512 .f32) (w : Vec F S512x1024 .f32) : FVec F S1x512x1024 .f32 :=
  shapeCast S1x512x1024 (prod x w) shapeCasts_S512x1024_S1x512x1024
/-- What a middle stage stores over the partial sum received. -/
abbrev payM (a : Vec F S1x512x1024 .f32) (x : Vec F S512x512 .f32) (w : Vec F S512x1024 .f32) : FVec F S1x512x1024 .f32 :=
  shapeCast S1x512x1024 (addf (shapeCast S512x1024 a shapeCasts_S1x512x1024_S512x1024) (prod x w)) shapeCasts_S512x1024_S1x512x1024
/-- What the last stage stores: the finished sum, its negative entries replaced by zero. -/
abbrev payL (a : Vec F S1x512x1024 .f32) (x : Vec F S512x512 .f32) (w : Vec F S512x1024 .f32) : FVec F S1x512x1024 .f32 :=
  shapeCast S1x512x1024 (maximumf (addf (shapeCast S512x1024 a shapeCasts_S1x512x1024_S512x1024) (prod x w))
    (broadcast S512x1024 (Scalar.ofBits .f32 0x00000000#32))) shapeCasts_S512x1024_S1x512x1024

/-! ## The stages -/

/-- The activations' block in the kernel's memory, -/
abbrev stg0 : Memref sig .tc .vmem S4096x512 .f32 := Memref.whole cc0_stg0_0
/-- and the weights'. -/
abbrev stg1 : Memref sig .tc .vmem S512x8192 .f32 := Memref.whole cc0_stg1_0

/-- Load the 512 rows of the activations that start at `off`. -/
abbrev loadX (off : Fin 2 → Nat) (h : ∀ a, off a + S512x512.size a ≤ S4096x512.size a) : Body F (Vec F S512x512 .f32) :=
  Prog.lift (.load stg0 (Rect.unit (s := S4096x512) off S512x512.size h).toLoadRect (View.loadsAt_vmem h_S512x512))
/-- Load the columns of the weights of a piece. -/
abbrev loadW (b : Bool) (k : Fin 4) : Body F (Vec F S512x1024 .f32) :=
  Prog.lift (.load stg1 (colsRect b k).toLoadRect (View.loadsAt_vmem h_S512x1024))
/-- Load a piece of a slot. -/
abbrev loadPiece (b : Bool) (p : Fin 2) (k : Fin 4) : Body F (Vec F S1x512x1024 .f32) :=
  Prog.lift (.load (scratch b) (pieceRect p k).toLoadRect (View.loadsAt_vmem h_S1x512x1024))
/-- Store a piece of a slot. -/
abbrev storePiece (b : Bool) (p : Fin 2) (k : Fin 4) (v : FVec F S1x512x1024 .f32) : Body F PUnit :=
  Prog.lift (.store (scratch b) (pieceRect p k) v Finset.univ (View.stores_vmem_bits_univ h_S1x512x1024 rfl) (.inl rfl))

/-- Send slot `p`'s piece into the neighbour's slot `q`. -/
abbrev sendPiece (b : Bool) (k : Fin 4) (p q : Fin 2) (d : Dev nD) : Body F PUnit :=
  Prog.lift (.enqueueDma (piece b p k) (.remote (Dev.tc (sendDev b d)) (piece b q k) (.dma (cellAt (sendTab b) p k)))
    (.dma (cellAt (recvTab b) q k)) ((View.wordExact_bits rfl).reshape _ _) ((View.wordExact_bits rfl).reshape _ _)
    ⟨⟨rfl, Or.inl rfl⟩, trivial⟩)
/-- Wait for the transfer out of slot `p`, its source given back. -/
abbrev waitSent (b : Bool) (k : Fin 4) (p q : Fin 2) : Body F PUnit :=
  Prog.lift (.waitDma2 (cellAt (sendTab b) p k) (piece b q k) (piece b p k) ((View.wordExact_bits rfl).reshape _ _)
    ((View.wordExact_bits rfl).reshape _ _))
/-- Wait for the transfer into slot `p`. -/
abbrev waitRecv (b : Bool) (k : Fin 4) (p q : Fin 2) : Body F PUnit :=
  Prog.lift (.waitDma2 (cellAt (recvTab b) p k) (piece b q k) (piece b p k) ((View.wordExact_bits rfl).reshape _ _)
    ((View.wordExact_bits rfl).reshape _ _))

/-- The first stage: multiply, store into slot 0, send to the neighbour's slot 1. -/
def stageI (b : Bool) (k : Fin 4) (d : Dev nD) : Body F PUnit := do
  let x ← loadX (offI b d) (offI_inb b d)
  let w ← loadW b k
  let _ ← loadPiece b (par 0) k
  storePiece b (par 0) k (payI x w)
  sendPiece b k (par 0) (par 1) d

/-- Middle stage `s`, its last transfer out of slot `p` and the partial sum arriving in slot `q`: with the slots
    free and full, grant the slot sent from to the other neighbour, add the next product to the sum received, and send
    it on once the neighbour has granted its slot. -/
def stageM (b : Bool) (k : Fin 4) (s : Fin 6) (p q : Fin 2) (d : Dev nD) : Body F PUnit := do
  waitSent b k p q
  waitRecv b k q p
  semSignalWord (creditDev b d) (creditSem b) 1#32
  let a ← loadPiece b q k
  let x ← loadX (offM b s d) (offM_inb b s d)
  let w ← loadW b k
  let _ ← loadPiece b q k
  storePiece b q k (payM a x w)
  semWaitWord (creditSem b) 1#32
  sendPiece b k q p d

/-- The last stage: add the device's own product, replace negative entries by zero, and copy the finished piece
    to the result. -/
def stageL (b : Bool) (k : Fin 4) (d : Dev nD) : Body F PUnit := do
  waitSent b k (par 6) (par 7)
  waitRecv b k (par 7) (par 6)
  let a ← loadPiece b (par 7) k
  let x ← loadX (k0_off5 d) (k0_off5_inb d)
  let w ← loadW b k
  let _ ← loadPiece b (par 6) k
  storePiece b (par 6) k (payL a x w)
  Prog.lift (.enqueueDma (piece b (par 6) k) (.here (outPiece b k)) (.dma (cellAt cc0_scratch8 (outRow b) k))
    ((View.wordExact_bits rfl).reshape _ _) (View.wordExact_bits rfl) ⟨Or.inl rfl, trivial⟩)

/-- Wait for a finished piece's copy. -/
def stageO (b : Bool) (k : Fin 4) : Body F PUnit :=
  Prog.lift (.waitDma2 (cellAt cc0_scratch8 (outRow b) k) (piece b (par 6) k) (outPiece b k)
    ((View.wordExact_bits rfl).reshape _ _) (View.wordExact_bits rfl))

/-- The barrier: tell both neighbours, wait for both. -/
def barrier (d : Dev nD) : Body F PUnit := do
  semSignalWord (creditDev false d) barSem 1#32
  semSignalWord (creditDev true d) barSem 1#32
  semWaitWord barSem 2#32

/-- One sweep over the eight (piece, direction) pairs. -/
def sweep (f : Bool → Fin 4 → Body F PUnit) : Body F PUnit := do
  f false 0
  f true 0
  f false 1
  f true 1
  f false 2
  f true 2
  f false 3
  f true 3

/-- The kernel's body as stages. -/
def ringBody : Body F PUnit := do
  let d ← Prog.lift .deviceId
  barrier d
  sweep fun b k => stageI b k d
  sweep fun b k => stageM b k (stageNo 0) (par 0) (par 1) d
  sweep fun b k => stageM b k (stageNo 1) (par 1) (par 2) d
  sweep fun b k => stageM b k (stageNo 2) (par 2) (par 3) d
  sweep fun b k => stageM b k (stageNo 3) (par 3) (par 4) d
  sweep fun b k => stageM b k (stageNo 4) (par 4) (par 5) d
  sweep fun b k => stageM b k (stageNo 5) (par 5) (par 6) d
  sweep fun b k => stageL b k d
  sweep fun b k => stageO b k

end Cert.KernelIdeal.Ring

end
-- ==== Proof.KernelIdeal.BodyEq.lean ====
module

public import proofs.«01_k».proof.Proof.KernelIdeal.Stages
public import Idealize.ShloMosaic.Lib.Pipeline.Regions

@[expose] public section

noncomputable section

namespace Cert.KernelIdeal.Ring

open Idealize.ShloMosaic Idealize.ShloMosaic.TcCoe Idealize.SL.Sem
open Cert.KernelIdeal Cert.KernelIdeal.Gen

variable {F : FTy → Type} [FloatOps F]

set_option maxRecDepth 100000 in
set_option maxHeartbeats 0 in
/-- The kernel's body is the stages in order. -/
theorem body_eq : cc0_body (F := F) stg0 (Memref.isWhole_whole _) stg1 (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 = ringBody := by
  chain_rfl

end Cert.KernelIdeal.Ring

end
-- ==== Proof.KernelIdeal.Pieces.lean ====
/-
  What is held of a device's buffers while the partial sums travel: column pieces of the scratch buffers and of the
  result, at any contents or at contents that read as a given vector; and how a load, a store and the transfers'
  views of a piece relate.
-/
module

public import proofs.«01_k».proof.Proof.KernelIdeal.Stages
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Release
public import Idealize.ShloMosaic.Lib.VecWindow
public import Idealize.ShloMosaic.Lib.Exec.Geometry
public import Idealize.ShloMosaic.Lib.Tactic
public import Idealize.SL.BI.BigOpNat

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-! ## The resources of a run -/

/-- Keys of the slots that travel back to their writer: the device that holds the slot, the direction, and the number
    `4 * stage + piece` of the grant. -/
abbrev Key : Type := Dev nD × Bool × Fin 24

/-- The ghost state of the ring's rounds. -/
abbrev URounds' : Type := Rounds.URounds (GSem nD τ sig) ℕ
/-- The ghost state of the slots lent. -/
abbrev USlots' : Type := Release.USlots Key
/-- The ghost state: the pipeline's rounds, the ring's rounds, the slots'. -/
abbrev UU : Type := UR sig nD τ × (URounds' × USlots')

local notation "𝕄" => MT nD τ sig ℕ (Elt F) ℕ UU ℕ

/-- Where the pipeline's rounds lie in it, -/
abbrev EP : Emb (UR sig nD τ) 𝕄 := embL
/-- where the ring's, -/
abbrev ER : Emb URounds' 𝕄 := (Emb.inl : Emb URounds' (URounds' × USlots')).trans embR
/-- and where the slots'. -/
abbrev ES : Emb USlots' 𝕄 := (Emb.inr : Emb USlots' (URounds' × USlots')).trans embR

/-- No loop variant is declared. -/
abbrev 𝒱₀ : Variants := Variants.none

/-- The program logic's statement about a program of the body on device `c`. -/
abbrev WP (c : Dev nD) (p : Body F PUnit) (Q : PUnit → sProp 𝕄) : sProp 𝕄 :=
  wp frame (wpE (defs₀ (F := F)) 𝒱₀ (c : Thread nD τ) none) Set.univ p Q

/-! ## Pieces -/

/-- A piece of a scratch buffer, at any contents. -/
def pieceAny (c : Dev nD) (b : Bool) (p : Fin 2) (k : Fin 4) : sProp 𝕄 :=
  Release.slot ((piece b p k).view.loc (c : Thread nD τ)) (piece b p k).view.set

/-- A piece of a scratch buffer, at contents that read as `v`. -/
def pieceIs (c : Dev nD) (b : Bool) (p : Fin 2) (k : Fin 4) (v : Vec F S512x1024 .f32) : sProp 𝕄 :=
  iprop(∃ f, ((piece b p k).view.loc (c : Thread nD τ) ↦[(piece b p k).view.set]{fullShare} f)
    ∗ ⌜(piece b p k).view.read (Elt F) f = v⌝)

/-- A piece of the result, at any contents. -/
def outAny (c : Dev nD) (b : Bool) (k : Fin 4) : sProp 𝕄 :=
  Release.slot ((outPiece b k).view.loc (c : Thread nD τ)) (outPiece b k).view.set

/-- A piece of the result, at contents that read as `v`. -/
def outIs (c : Dev nD) (b : Bool) (k : Fin 4) (v : Vec F S512x1024 .f32) : sProp 𝕄 :=
  iprop(∃ f, ((outPiece b k).view.loc (c : Thread nD τ) ↦[(outPiece b k).view.set]{fullShare} f)
    ∗ ⌜(outPiece b k).view.read (Elt F) f = v⌝)

omit [FloatOps F] in
/-- A piece of a slot can be kept in an invariant, -/
instance pieceAny_storable (c : Dev nD) (b : Bool) (p : Fin 2) (k : Fin 4) :
    Storable (upEmb : UEmb _ 𝕄) (pieceAny (F := F) c b p k) := by unfold pieceAny; infer_instance
omit [FloatOps F] in
/-- also with its contents; -/
instance pieceIs_storable (c : Dev nD) (b : Bool) (p : Fin 2) (k : Fin 4) (v : Vec F S512x1024 .f32) :
    Storable (upEmb : UEmb _ 𝕄) (pieceIs c b p k v) := by unfold pieceIs; infer_instance
omit [FloatOps F] in
/-- so can a piece of the result, -/
instance outAny_storable (c : Dev nD) (b : Bool) (k : Fin 4) :
    Storable (upEmb : UEmb _ 𝕄) (outAny (F := F) c b k) := by unfold outAny; infer_instance
omit [FloatOps F] in
/-- also with its contents. -/
instance outIs_storable (c : Dev nD) (b : Bool) (k : Fin 4) (v : Vec F S512x1024 .f32) :
    Storable (upEmb : UEmb _ 𝕄) (outIs c b k v) := by unfold outIs; infer_instance

omit [FloatOps F] in
/-- Contents that read as a vector are some contents. -/
theorem pieceIs_any (c : Dev nD) (b : Bool) (p : Fin 2) (k : Fin 4) (v : Vec F S512x1024 .f32) :
    (pieceIs c b p k v : sProp 𝕄) ⊢ pieceAny c b p k := by
  unfold pieceIs pieceAny Release.slot
  iintro ⟨%f, H, -⟩; iexists f; iexact H

/-- A piece's elements, named through the buffer. -/
theorem piece_set (b : Bool) (p : Fin 2) (k : Fin 4) :
    (piece b p k).view.set = ((scratch b).view.slice (pieceRect p k)).set :=
  Memref.set_view_squeeze _ _

/-- A piece has an element. -/
theorem piece_nonempty (b : Bool) (p : Fin 2) (k : Fin 4) : (piece b p k).view.set.Nonempty :=
  ⟨_, (piece b p k).view.emb_mem_set (fun a => ⟨0, (by decide : ∀ a, 0 < S512x1024.size a) a⟩)⟩

omit [FloatOps F] in
/-- Two holdings of one piece contradict each other. -/
theorem pieceAny_excl (c : Dev nD) (b : Bool) (p : Fin 2) (k : Fin 4) :
    iprop(pieceAny c b p k ∗ pieceAny c b p k) ⊢ (False : sProp 𝕄) :=
  Release.slot_slot_false (piece_nonempty b p k)

/-- A load of a piece reads that piece's elements. -/
theorem scratch_loads (b : Bool) (p : Fin 2) (k : Fin 4) :
    (scratch b).view.setOn (pieceRect p k).toLoadRect.set = (piece b p k).view.set := by
  rw [piece_set, View.set_slice]; rfl

/-- A store over a piece is what the transfers then read of it. -/
theorem read_stored (b : Bool) (p : Fin 2) (k : Fin 4) (f : (scratch b).view.ty.Contents (Elt F)) (v : Vec F S512x1024 .f32) :
    (piece b p k).view.read (Elt F) (((scratch b).access (pieceRect p k)).write (Elt F) f
      (shapeCast S1x512x1024 v shapeCasts_S512x1024_S1x512x1024) Finset.univ) = v := by
  rw [Memref.read_squeeze_slice (scratch b) (pieceRect p k) _ _ shapeCasts_S1x512x1024_S512x1024, View.readAt_rect]
  exact (congrArg (fun u => shapeCast S512x1024 u shapeCasts_S1x512x1024_S512x1024)
    (View.read_write_univ (v := (scratch b).access (pieceRect p k)) f _)).trans (shapeCast_shapeCast v _ _)

section Rules

variable (c : Dev nD)

/-- A load of a piece, its contents known: what is loaded, its leading unit axis dropped, is the vector. -/
theorem wp_loadPiece (b : Bool) (p : Fin 2) (k : Fin 4) (v : Vec F S512x1024 .f32)
    (K : Vec F S1x512x1024 .f32 → Body F PUnit) (Q : PUnit → sProp 𝕄) :
    (pieceIs c b p k v : sProp 𝕄)
      ⊢ iprop((∀ a, ⌜shapeCast S512x1024 a shapeCasts_S1x512x1024_S512x1024 = v⌝ -∗ pieceIs c b p k v -∗ WP c (K a) Q)
        -∗ WP c (.op (.load (scratch b) (pieceRect p k).toLoadRect (View.loadsAt_vmem h_S1x512x1024)) K) Q) := by
  unfold pieceIs
  iintro ⟨%f, H, %hf⟩ Hk
  iapply (wp_load 𝒱₀ (c : Thread nD τ) none Set.univ (m := scratch b) (r := (pieceRect p k).toLoadRect) (scratch_loads b p k).subset) $$ H
  iintro H
  ispecialize Hk $$ %((scratch b).view.readAt (Elt F) (pieceRect p k).toLoadRect f)
  iapply Hk $$ [] [H]
  · ipureintro; exact hf
  · iexists f; isplitl [H]; · iexact H
    ipureintro; exact hf

/-- A load of a piece whose result is not used. -/
theorem wp_loadPiece_any (b : Bool) (p : Fin 2) (k : Fin 4)
    (K : Vec F S1x512x1024 .f32 → Body F PUnit) (Q : PUnit → sProp 𝕄) :
    (pieceAny c b p k : sProp 𝕄)
      ⊢ iprop((∀ a, pieceAny c b p k -∗ WP c (K a) Q)
        -∗ WP c (.op (.load (scratch b) (pieceRect p k).toLoadRect (View.loadsAt_vmem h_S1x512x1024)) K) Q) := by
  unfold pieceAny Release.slot
  iintro ⟨%f, H⟩ Hk
  iapply (wp_load 𝒱₀ (c : Thread nD τ) none Set.univ (m := scratch b) (r := (pieceRect p k).toLoadRect) (scratch_loads b p k).subset) $$ H
  iintro H
  iapply Hk
  iexists f; iexact H

/-- A store over a piece: it then holds the vector stored. -/
theorem wp_storePiece (b : Bool) (p : Fin 2) (k : Fin 4) (v : Vec F S512x1024 .f32)
    (K : PUnit → Body F PUnit) (Q : PUnit → sProp 𝕄) :
    (pieceAny c b p k : sProp 𝕄)
      ⊢ iprop((pieceIs c b p k v -∗ WP c (K ⟨⟩) Q)
        -∗ WP c (.op (.store (scratch b) (pieceRect p k) (shapeCast S1x512x1024 v shapeCasts_S512x1024_S1x512x1024) Finset.univ
            (View.stores_vmem_bits_univ h_S1x512x1024 rfl) (.inl rfl)) K) Q) := by
  unfold pieceAny Release.slot
  iintro ⟨%f, H⟩ Hk
  iapply (wp_store 𝒱₀ (c : Thread nD τ) none Set.univ (m := scratch b) (r := pieceRect p k) (Mk := Finset.univ)
    (piece_set b p k).symm.subset) $$ H
  iintro H
  iapply Hk
  unfold pieceIs
  iexists _; isplitl [H]; · iexact H
  ipureintro; exact read_stored b p k f v

/-- A load of 512 rows of the activations. -/
theorem wp_loadX (x : Vec F S4096x512 .f32) (off : Fin 2 → Nat) (h : ∀ a, off a + S512x512.size a ≤ S4096x512.size a)
    (K : Vec F S512x512 .f32 → Body F PUnit) (Q : PUnit → sProp 𝕄) :
    ((stg0.view.loc (c : Thread nD τ)) ↦{fullShare} x : sProp 𝕄)
      ⊢ iprop((((stg0.view.loc (c : Thread nD τ)) ↦{fullShare} x) -∗ WP c (K (VecWindow.window x off S512x512.size h)) Q)
        -∗ WP c (.op (.load stg0 (Rect.unit (s := S4096x512) off S512x512.size h).toLoadRect (View.loadsAt_vmem h_S512x512)) K) Q) :=
  wp_load 𝒱₀ (c : Thread nD τ) none Set.univ (m := stg0) (Finset.subset_univ _)

/-- A load of a stage's columns of the weights. -/
theorem wp_loadW (w : Vec F S512x8192 .f32) (b : Bool) (k : Fin 4)
    (K : Vec F S512x1024 .f32 → Body F PUnit) (Q : PUnit → sProp 𝕄) :
    ((stg1.view.loc (c : Thread nD τ)) ↦{fullShare} w : sProp 𝕄)
      ⊢ iprop((((stg1.view.loc (c : Thread nD τ)) ↦{fullShare} w) -∗
          WP c (K (VecWindow.window w ![0, 4096 * b.toNat + 1024 * k.val] S512x1024.size (cols_inb b k))) Q)
        -∗ WP c (.op (.load stg1 (colsRect b k).toLoadRect (View.loadsAt_vmem h_S512x1024)) K) Q) :=
  wp_load 𝒱₀ (c : Thread nD τ) none Set.univ (m := stg1) (Finset.subset_univ _)

end Rules

end Cert.KernelIdeal.Ring

end
-- ==== Proof.KernelIdeal.Protocol.lean ====
/-
  The protocol of the ring: its semaphore cells, the partial sums that travel, what each unit on a cell hands over,
  what each device owes its neighbours and in which order, and why no wait blocks.
-/
module

public import proofs.«01_k».proof.Proof.KernelIdeal.Pieces

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## The neighbours -/

/-- A device is the one its granting neighbour sends to, -/
theorem send_credit : ∀ (b : Bool) (d : Dev nD), sendDev b (creditDev b d) = d := by decide
/-- and the one that is granted by the neighbour it sends to. -/
theorem credit_send : ∀ (b : Bool) (d : Dev nD), creditDev b (sendDev b d) = d := by decide
/-- The neighbour granted in one direction is the one sent to in the other. -/
theorem credit_not : ∀ (b : Bool) (d : Dev nD), creditDev (!b) d = sendDev b d := by decide

/-- The ring as a bijection of the devices. -/
def ring (b : Bool) : Dev nD ≃ Dev nD where
  toFun := creditDev b
  invFun := sendDev b
  left_inv := send_credit b
  right_inv := credit_send b

/-! ## Cells -/

/-- The semaphore cells of one device: the barrier, a direction's credits, a slot's transfers out and in, and the copies
    to the result. -/
inductive Cl
  | bar
  | credit (b : Bool)
  | send (b : Bool) (p : Fin 2) (k : Fin 4)
  | recv (b : Bool) (p : Fin 2) (k : Fin 4)
  | out (b : Bool) (k : Fin 4)
  deriving DecidableEq

/-- The cells as a sum of their kinds. -/
abbrev Kinds : Type := Unit ⊕ Bool ⊕ (Bool × Fin 2 × Fin 4) ⊕ (Bool × Fin 2 × Fin 4) ⊕ (Bool × Fin 4)

/-- A cell from its kind -/
def Cl.ofKinds : Kinds → Cl
  | .inl _ => .bar
  | .inr (.inl b) => .credit b
  | .inr (.inr (.inl (b, p, k))) => .send b p k
  | .inr (.inr (.inr (.inl (b, p, k)))) => .recv b p k
  | .inr (.inr (.inr (.inr (b, k)))) => .out b k

/-- and the kind of a cell. -/
def Cl.kinds : Cl → Kinds
  | .bar => .inl ()
  | .credit b => .inr (.inl b)
  | .send b p k => .inr (.inr (.inl (b, p, k)))
  | .recv b p k => .inr (.inr (.inr (.inl (b, p, k))))
  | .out b k => .inr (.inr (.inr (.inr (b, k))))

/-- Cells are their kinds. -/
def kindsEquiv : Kinds ≃ Cl where
  toFun := Cl.ofKinds
  invFun := Cl.kinds
  left_inv := by rintro (_ | _ | ⟨_, _, _⟩ | ⟨_, _, _⟩ | ⟨_, _⟩) <;> rfl
  right_inv := by rintro (_ | _ | _ | _ | _) <;> rfl

/-- There are finitely many cells. -/
instance : Fintype Cl := Fintype.ofEquiv _ kindsEquiv

/-- The semaphore of a cell. -/
abbrev Cl.loc : Cl → SemLoc sig
  | .bar => .reg barSem
  | .credit b => .reg (creditSem b)
  | .send b p k => .dma (cellAt (sendTab b) p k)
  | .recv b p k => .dma (cellAt (recvTab b) p k)
  | .out b k => .dma (cellAt cc0_scratch8 (outRow b) k)

/-- Different cells are different counters. -/
theorem loc_injective : Function.Injective Cl.loc := by
  have h : ∀ x y : Cl, x.loc = y.loc → x = y := by decide +kernel
  exact fun x y => h x y

open Classical in
/-- The cell a semaphore is. -/
def clOf (s : SemLoc sig) : Option Cl := if h : ∃ x : Cl, x.loc = s then some h.choose else none

/-- A counter's cell is found again. -/
theorem clOf_loc (x : Cl) : clOf x.loc = some x := by
  have h : ∃ y : Cl, y.loc = x.loc := ⟨x, rfl⟩
  unfold clOf
  rw [dif_pos h]
  exact congrArg some (loc_injective h.choose_spec)

/-- Cell `x` of device `d`. -/
abbrev cell (d : Dev nD) (x : Cl) : GSem nD τ sig := ((d : Thread nD τ), x.loc)

/-- Different cells of devices are different counters. -/
theorem cell_injective : Function.Injective fun p : Dev nD × Cl => cell p.1 p.2 := by
  rintro ⟨d, x⟩ ⟨e, y⟩ h
  have h1 : d = e := congrArg (fun g : GSem nD τ sig => g.1.1) h
  have h2 : x.loc = y.loc := congrArg Prod.snd h
  rw [h1, loc_injective h2]

/-- The credit of one piece's transfer between devices, -/
@[irreducible] def N (b : Bool) : ℕ := (piece b 0 0).view.dmaCredit
/-- and of its copy to the result. -/
@[irreducible] def NO (b : Bool) : ℕ := (outPiece b 0).view.dmaCredit

/-- A transfer of a piece brings the same credit whatever the slot and the piece, -/
theorem N_eq (b : Bool) (p : Fin 2) (k : Fin 4) : (piece b p k).view.dmaCredit = N b := by unfold N; rfl
/-- and so does a copy of a piece to the result; -/
theorem NO_eq (b : Bool) (k : Fin 4) : (outPiece b k).view.dmaCredit = NO b := by unfold NO; rfl
/-- the one is positive -/
theorem N_pos (b : Bool) : 0 < N b := by unfold N; exact View.dmaCredit_pos _ (by decide)
/-- and the other too. -/
theorem NO_pos (b : Bool) : 0 < NO b := by unfold NO; exact View.dmaCredit_pos _ (by decide)

/-! ## The sums that travel -/

section Sums

variable (x : Dev nD → Vec F S4096x512 .f32) (w : Dev nD → Vec F S512x8192 .f32)

/-- A stage's columns of a device's weights. -/
abbrev cols (b : Bool) (k : Fin 4) (d : Dev nD) : Vec F S512x1024 .f32 :=
  VecWindow.window (w d) ![0, 4096 * b.toNat + 1024 * k.val] S512x1024.size (cols_inb b k)

/-- The product device `d` starts transfer 0 with. -/
abbrev prodI (b : Bool) (k : Fin 4) (d : Dev nD) : Vec F S512x1024 .f32 :=
  prod (VecWindow.window (x d) (offI b d) S512x512.size (offI_inb b d)) (cols w b k d)
/-- The product device `d` adds in middle stage `n`. -/
abbrev prodM (b : Bool) (k : Fin 4) (n : ℕ) (d : Dev nD) : Vec F S512x1024 .f32 :=
  prod (VecWindow.window (x d) (offM b (stageNo n) d) S512x512.size (offM_inb b (stageNo n) d)) (cols w b k d)
/-- The product device `d` adds in the last stage. -/
abbrev prodL (b : Bool) (k : Fin 4) (d : Dev nD) : Vec F S512x1024 .f32 :=
  prod (VecWindow.window (x d) (k0_off5 d) S512x512.size (k0_off5_inb d)) (cols w b k d)

/-- The partial sum device `d` sends in transfer `u`. -/
def psum (b : Bool) (k : Fin 4) : ℕ → Dev nD → Vec F S512x1024 .f32
  | 0, d => prodI x w b k d
  | u + 1, d => addf (psum b k u (creditDev b d)) (prodM x w b k u d)

/-- The finished piece of device `d`'s result. -/
def result (b : Bool) (k : Fin 4) (d : Dev nD) : Vec F S512x1024 .f32 :=
  maximumf (addf (psum x w b k 6 (creditDev b d)) (prodL x w b k d))
    (broadcast S512x1024 (Scalar.ofBits .f32 0x00000000#32))

end Sums

/-! ## The slots that travel back -/

/-- The number of the grant of piece `k` in stage `n`. -/
abbrev grantNo (n : ℕ) (k : Fin 4) : ℕ := 4 * n + k.val

/-- The key of grant `j` of device `d`. -/
abbrev keyOf (d : Dev nD) (b : Bool) (j : ℕ) : Key := (d, b, ⟨j % 24, Nat.mod_lt _ (by decide)⟩)

/-- The slot of a key: grant `j = 4 n + k` is of piece `k` of the slot that transfer `n` left from. -/
def keySlot (y : Key) : sProp 𝕄 :=
  pieceAny y.1 y.2.1 (par (y.2.2.val / 4)) ⟨y.2.2.val % 4, Nat.mod_lt _ (by decide)⟩

omit [FloatOps F] in
/-- The slot of a key can be kept in an invariant, -/
instance keySlot_storable (y : Key) : Storable (upEmb : UEmb _ 𝕄) (keySlot (F := F) y) := by
  unfold keySlot; infer_instance

omit [FloatOps F] in
/-- and cannot be held twice. -/
theorem keySlot_excl (y : Key) : iprop(keySlot y ∗ keySlot y) ⊢ (False : sProp 𝕄) := pieceAny_excl _ _ _ _

omit [FloatOps F] in
/-- The slot that a stage's grant frees. -/
theorem keySlot_grant (d : Dev nD) (b : Bool) (n : ℕ) (hn : n < 6) (k : Fin 4) :
    (keySlot (keyOf d b (grantNo n k)) : sProp 𝕄) = pieceAny d b (par n) k := by
  have hk := k.isLt
  have h1 : (4 * n + k.val) % 24 = 4 * n + k.val := Nat.mod_eq_of_lt (by omega)
  have h2 : (4 * n + k.val) / 4 = n := by omega
  have h3 : (⟨(4 * n + k.val) % 4, Nat.mod_lt _ (by decide)⟩ : Fin 4) = k := Fin.ext (by show (4 * n + k.val) % 4 = k.val; omega)
  show pieceAny d b (par (((4 * n + k.val) % 24) / 4)) ⟨((4 * n + k.val) % 24) % 4, _⟩ = _
  simp only [h1, h2, h3]

/-- What grant `j` of device `d` tells: its slot is free, and its cell for the next transfer is in that transfer's round. -/
def grant (d : Dev nD) (b : Bool) (j : ℕ) : sProp 𝕄 :=
  iprop(Release.released ES (keyOf d b j) 1
    ∗ reached ER (cell d (.recv b (par (j / 4)) ⟨j % 4, Nat.mod_lt _ (by decide)⟩)) ((j / 4 + 1) / 2))

/-- What a device has told by its first `j` grants. -/
def told (d : Dev nD) (b : Bool) (j : ℕ) : sProp 𝕄 := bigSep (Finset.range j) (grant d b)

omit [FloatOps F] in
/-- What a grant tells stays true, -/
instance grant_persistent (d : Dev nD) (b : Bool) (j : ℕ) : BI.Persistent (grant (F := F) d b j) := by unfold grant; infer_instance
omit [FloatOps F] in
/-- also of the first grants together. -/
instance told_persistent (d : Dev nD) (b : Bool) (j : ℕ) : BI.Persistent (told (F := F) d b j) := by unfold told; infer_instance
omit [FloatOps F] in
/-- A grant can be kept in an invariant, -/
instance grant_storable (d : Dev nD) (b : Bool) (j : ℕ) : Storable (upEmb : UEmb _ 𝕄) (grant (F := F) d b j) := by unfold grant; infer_instance
omit [FloatOps F] in
/-- and the first grants together. -/
instance told_storable (d : Dev nD) (b : Bool) (j : ℕ) : Storable (upEmb : UEmb _ 𝕄) (told (F := F) d b j) := by unfold told; infer_instance

omit [FloatOps F] in
/-- One more grant told. -/
theorem told_succ (d : Dev nD) (b : Bool) (j : ℕ) : (told d b (j + 1) : sProp 𝕄) = iprop(grant d b j ∗ told d b j) :=
  BI.bigSep_range_succ j _
omit [FloatOps F] in
/-- One of the grants told. -/
theorem told_elim (d : Dev nD) (b : Bool) {i j : ℕ} (h : i < j) : (told d b j : sProp 𝕄) ⊢ grant d b i :=
  bigSep_elim (Finset.mem_range.mpr h)

/-! ## The schedule -/

section Schedule

variable (x : Dev nD → Vec F S4096x512 .f32) (w : Dev nD → Vec F S512x8192 .f32)

/-- The four pieces of slot 1 a device lends to the neighbour that sends to it. -/
def lent (d : Dev nD) (b : Bool) : sProp 𝕄 := bigSep Finset.univ fun k : Fin 4 => pieceAny d b (par 1) k

omit [FloatOps F] in
/-- The pieces lent can be kept in an invariant. -/
instance lent_storable (d : Dev nD) (b : Bool) : Storable (upEmb : UEmb _ 𝕄) (lent (F := F) d b) := by unfold lent; infer_instance

/-- The transfer that round `r` of a slot's outgoing cell completes. -/
abbrev outNo (p : Fin 2) (r : ℕ) : ℕ := 2 * r + p.val
/-- The transfer that round `r` of a slot's incoming cell completes. -/
abbrev inNo (p : Fin 2) (r : ℕ) : ℕ := 2 * r + (1 - p.val)

/-- The units of a round of a cell. -/
def duty : Cl → ℕ → Finset ℕ
  | .bar, r => if r = 0 then {0, 1} else ∅
  | .credit _, r => if r = 0 then Finset.range 24 else ∅
  | .send _ p _, r => if outNo p r ≤ 6 then {0} else ∅
  | .recv _ p _, r => if inNo p r ≤ 6 then {0} else ∅
  | .out _ _, r => if r = 0 then {0} else ∅

/-- What a unit counts. -/
def amt : Cl → ℕ
  | .bar => 1
  | .credit _ => 1
  | .send b _ _ => N b
  | .recv b _ _ => N b
  | .out b _ => NO b

/-- What a unit hands over: a barrier unit the slots its signaler lends, a credit what the neighbour has told, a transfer
    out its source, a transfer in the sender's partial sum, a copy to the result its source and the finished piece. -/
def pay (d : Dev nD) : Cl → ℕ → ℕ → sProp 𝕄
  | .bar, _, i => lent (sendDev (i == 1) d) (i == 1)
  | .credit b, _, i => told (sendDev b d) b (i + 1)
  | .send b p k, _, _ => pieceAny d b p k
  | .recv b p k, r, _ => pieceIs d b p k (psum x w b k (inNo p r) (creditDev b d))
  | .out b k, _, _ => iprop(outIs d b k (result x w b k d) ∗ pieceAny d b (par 6) k)

/-- What a unit hands over can be kept in an invariant. -/
instance pay_storable (d : Dev nD) (y : Cl) (r i : ℕ) : Storable (upEmb : UEmb _ 𝕄) (pay x w d y r i) := by
  cases y <;> (unfold pay; infer_instance)

/-- Every unit is positive, -/
theorem amt_pos : ∀ y : Cl, 0 < amt y
  | .bar => Nat.one_pos
  | .credit _ => Nat.one_pos
  | .send b _ _ => N_pos b
  | .recv b _ _ => N_pos b
  | .out b _ => NO_pos b

/-- also at a counter that may be no cell. -/
theorem elim_amt_pos (o : Option Cl) : 0 < o.elim 1 amt := by
  cases o with
  | none => exact Nat.one_pos
  | some y => exact amt_pos y

/-- The ring's schedule. -/
def Rd : Schedule (GSem nD τ sig) ℕ 𝕄 where
  duties g r := (clOf g.2).elim ∅ fun y => duty y r
  amount g _ _ := (clOf g.2).elim 1 amt
  payload g r i := (clOf g.2).elim iprop(emp) fun y => pay x w g.1.1 y r i
  amount_pos g _ _ _ := elim_amt_pos _

/-- What is handed over at a counter that may be no cell can be kept too, -/
instance elim_pay_storable (d : Dev nD) (o : Option Cl) (r i : ℕ) :
    Storable (upEmb : UEmb _ 𝕄) (o.elim iprop(emp) fun y => pay x w d y r i) := by
  cases o with
  | none => exact (inferInstance : Storable (upEmb : UEmb _ 𝕄) (iprop(emp) : sProp 𝕄))
  | some y => exact pay_storable x w d y r i

/-- and so all that the schedule hands over. -/
instance Rd_storable (g : GSem nD τ sig) (r i : ℕ) : Storable (upEmb : UEmb _ 𝕄) ((Rd x w).payload g r i) :=
  elim_pay_storable x w g.1.1 (clOf g.2) r i

/-- The schedule at a cell: the units of a round, -/
theorem duties_eq (d : Dev nD) (y : Cl) (r : ℕ) : (Rd x w).duties (cell d y) r = duty y r :=
  congrArg (fun o : Option Cl => o.elim ∅ fun y => duty y r) (clOf_loc y)
/-- the amount of each, -/
theorem amount_eq (d : Dev nD) (y : Cl) (r i : ℕ) : (Rd x w).amount (cell d y) r i = amt y :=
  congrArg (fun o : Option Cl => o.elim 1 amt) (clOf_loc y)
/-- what each hands over, -/
theorem payload_eq (d : Dev nD) (y : Cl) (r i : ℕ) : (Rd x w).payload (cell d y) r i = pay x w d y r i :=
  congrArg (fun o : Option Cl => o.elim iprop(emp) fun y => pay x w d y r i) (clOf_loc y)
/-- and what a whole round brings. -/
theorem expect_eq (d : Dev nD) (y : Cl) (r : ℕ) : (Rd x w).expect (cell d y) r = (duty y r).card * amt y := by
  unfold Schedule.expect Schedule.amountOf
  rw [duties_eq, Finset.sum_congr rfl fun i _ => amount_eq x w d y r i, Finset.sum_const, smul_eq_mul]

end Schedule

/-! ## What a device owes -/

/-- One unit, or one transfer's credit, that a device owes a neighbour: its barrier signals, its transfers `u = 0 .. 6` of
    each piece, and its grants in stages 0 .. 5. -/
abbrev Ob : Type := Bool ⊕ ((Bool × Fin 4) × (Fin 7 ⊕ Fin 6))

/-- A barrier signal, -/
abbrev Ob.bar (t : Bool) : Ob := .inl t
/-- a transfer -/
abbrev Ob.send (b : Bool) (k : Fin 4) (u : Fin 7) : Ob := .inr ((b, k), .inl u)
/-- and a grant. -/
abbrev Ob.grant (b : Bool) (k : Fin 4) (n : Fin 6) : Ob := .inr ((b, k), .inr n)

/-- A pair's place in a sweep. -/
abbrev lane (b : Bool) (k : Fin 4) : ℕ := 2 * k.val + b.toNat

/-- The order in which a device pays. -/
def Ob.seq : Ob → ℕ
  | .inl t => t.toNat
  | .inr ((b, k), .inl u) => if u.val = 0 then 2 + lane b k else 16 * u.val - 5 + 2 * lane b k
  | .inr ((b, k), .inr n) => 16 * n.val + 10 + 2 * lane b k

/-- Which neighbour is owed, as the direction it grants in. -/
def Ob.to : Ob → Bool
  | .inl t => t
  | .inr ((b, _), .inl _) => !b
  | .inr ((b, _), .inr _) => b
/-- The cell owed, -/
def Ob.cl : Ob → Cl
  | .inl _ => .bar
  | .inr ((b, k), .inl u) => .recv b (par (u.val + 1)) k
  | .inr ((b, _), .inr _) => .credit b
/-- the index the debt is recorded at, -/
def Ob.ix : Ob → ℕ
  | .inl _ => 0
  | .inr (_, .inl u) => u.val / 2
  | .inr ((_, k), .inr n) => grantNo n.val k
/-- the round -/
def Ob.rd : Ob → ℕ
  | .inr (_, .inl u) => u.val / 2
  | _ => 0
/-- and the unit of it. -/
def Ob.unit : Ob → ℕ
  | .inl t => t.toNat
  | .inr (_, .inl _) => 0
  | .inr ((_, k), .inr n) => grantNo n.val k

/-- No two are paid at the same place. -/
theorem seq_injective : Function.Injective Ob.seq := by
  have h : ∀ o o' : Ob, o.seq = o'.seq → o = o' := by decide +kernel
  exact fun o o' => h o o'

/-- There are 106 places. -/
theorem seq_lt : ∀ o : Ob, o.seq < 106 := by decide +kernel

/-- What one obligation of device `d` is. -/
def tal (o : Ob) (d : Dev nD) : CellTallies nD τ sig ℕ := tallyAt (cell (creditDev o.to d) o.cl) o.ix (amt o.cl)

/-- What device `d` still owes before its payment number `n`. -/
def O (d : Dev nD) (n : ℕ) : CellTallies nD τ sig ℕ := ∑ o ∈ Finset.univ.filter (fun o : Ob => n ≤ o.seq), tal o d

/-- A payment takes its part off what is owed. -/
theorem O_pay (d : Dev nD) (o : Ob) (n : ℕ) (h : o.seq = n) : O d n = O d (n + 1) + tal o d := by
  have hset : Finset.univ.filter (fun o : Ob => n ≤ o.seq)
      = insert o (Finset.univ.filter fun o : Ob => n + 1 ≤ o.seq) := by
    ext o'
    simp only [Finset.mem_filter, Finset.mem_univ, true_and, Finset.mem_insert]
    constructor
    · intro h'
      rcases Nat.lt_or_eq_of_le h' with h' | h'
      · exact .inr h'
      · exact .inl (seq_injective (h'.symm.trans h.symm))
    · rintro (rfl | h')
      · omega
      · omega
  unfold O
  rw [hset, Finset.sum_insert (by simp only [Finset.mem_filter, Finset.mem_univ, true_and]; omega), add_comm]

/-- In the end nothing is owed; -/
theorem O_end (d : Dev nD) : O d 106 = 0 := by
  unfold O
  rw [Finset.filter_false_of_mem fun o _ => by have := seq_lt o; omega, Finset.sum_empty]

/-- at the start everything is. -/
theorem O_start (d : Dev nD) : O d 0 = ∑ o : Ob, tal o d := by
  unfold O
  rw [Finset.filter_true_of_mem fun o _ => Nat.zero_le _]

/-! ## Levels -/

/-- The level of a cell's index: the place of its payment in the order. -/
def lvC : Cl → ℕ → ℕ
  | .bar, _ => 1
  | .credit b, i => 16 * (i / 4) + 10 + 2 * (2 * (i % 4) + b.toNat)
  | .recv b p k, r => if inNo p r = 0 then 2 + lane b k else 16 * inNo p r - 5 + 2 * lane b k
  | _, _ => 0

/-- The level of any counter's index -/
def lv (g : GSem nD τ sig) (i : ℕ) : ℕ := (clOf g.2).elim 0 fun y => lvC y i
/-- and the indices that have one: 24 on every device. -/
def L (g : GSem nD τ sig) : Finset ℕ := if g.1.2 = .tc then Finset.range 24 else ∅

/-- Nothing but a device's own thread has levels, -/
theorem L_of_ne (g : GSem nD τ sig) (h : g.1.2 ≠ .tc) : L g = ∅ := if_neg h
/-- and that thread has 24 of them at every counter. -/
theorem L_tc (c : Dev nD) (sm : SemLoc sig) : L ((c : Thread nD τ), sm) = Finset.range 24 := if_pos rfl
/-- The level at a cell. -/
theorem lv_cell (d : Dev nD) (y : Cl) (i : ℕ) : lv (cell d y) i = lvC y i :=
  congrArg (fun o : Option Cl => o.elim 0 fun y => lvC y i) (clOf_loc y)

/-- A payment's level is its place, the barrier's signals both at 1. -/
theorem lv_ob : ∀ o : Ob, lvC o.cl o.ix = max o.seq 1 := by decide +kernel
/-- Payments are recorded at the indices that have levels. -/
theorem ix_lt : ∀ o : Ob, o.ix < 24 := by decide +kernel

/-- What is owed somewhere is owed by a payment still to come. -/
theorem O_pos {d : Dev nD} {n : ℕ} {g : GSem nD τ sig} {i : ℕ} (h : 0 < O d n g i) :
    ∃ o : Ob, n ≤ o.seq ∧ g = cell (creditDev o.to d) o.cl ∧ i = o.ix := by
  unfold O at h
  rw [Finset.sum_apply, Finsupp.finsetSum_apply] at h
  obtain ⟨o, ho, hne⟩ := Finset.exists_ne_zero_of_sum_ne_zero h.ne'
  refine ⟨o, (Finset.mem_filter.mp ho).2, ?_⟩
  unfold tal at hne
  rw [tallyAt_apply] at hne
  by_contra hn
  exact hne (if_neg hn)

omit [FloatOps F] in
/-- A wait at a level below every payment still owed is allowed. -/
theorem mayWait_of (c : Dev nD) (sm : SemLoc sig) (i n : ℕ) (hi : i < 24) (hlt : lv ((c : Thread nD τ), sm) i < max n 1) :
    (levAts L lv : sProp 𝕄) ⊢ MayWait (c : Thread nD τ) sm i (O c n) := by
  refine MayOwe.of_cut (L := L) (lev := lv) (lv ((c : Thread nD τ), sm) i)
    (fun p hp => by rw [Finset.mem_singleton.mp hp, L_tc]; exact Finset.mem_range.mpr hi)
    (fun g u hg => ?_) (fun p hp => by rw [Finset.mem_singleton.mp hp]) (fun g u hg => ?_)
  · obtain ⟨o, -, rfl, rfl⟩ := O_pos hg
    rw [L_tc]; exact Finset.mem_range.mpr (ix_lt o)
  · obtain ⟨o, ho, rfl, rfl⟩ := O_pos hg
    rw [lv_cell, lv_ob]; omega

omit [FloatOps F] in
/-- The same of a cell. -/
theorem mayWait_cell (c : Dev nD) (y : Cl) (i n : ℕ) (hi : i < 24) (hlt : lvC y i < max n 1) :
    (levAts L lv : sProp 𝕄) ⊢ MayWait (c : Thread nD τ) y.loc i (O c n) :=
  mayWait_of c y.loc i n hi (by rw [show lv ((c : Thread nD τ), y.loc) i = lvC y i from lv_cell c y i]; exact hlt)

end Cert.KernelIdeal.Ring

end
-- ==== Proof.KernelIdeal.Steps.lean ====
/-
  One rule for each step of the ring that involves a semaphore: a wait for the one unit of a round, a transfer to the
  neighbour, a grant of a slot, and a wait for a grant.
-/
module

public import proofs.«01_k».proof.Proof.KernelIdeal.Protocol

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## Transfers, rounds and slots -/

/-- Two transfers on, a piece leaves from the same slot. -/
theorem par_add_two (n : ℕ) : par (n + 2) = par n := Fin.ext (Nat.add_mod_right n 2)
/-- Transfer `u` leaves its slot in round `u / 2` of that slot's outgoing cell -/
theorem outNo_par (u : ℕ) : outNo (par u) (u / 2) = u := by show 2 * (u / 2) + u % 2 = u; omega
/-- and arrives in the other slot in the same round of its incoming cell. -/
theorem inNo_par (u : ℕ) : inNo (par (u + 1)) (u / 2) = u := by show 2 * (u / 2) + (1 - (u + 1) % 2) = u; omega

/-- Transfer `u ≤ 6` out of a slot is the one unit of its round. -/
theorem duty_send (b : Bool) (k : Fin 4) (u : ℕ) (h : u ≤ 6) : duty (.send b (par u) k) (u / 2) = {0} :=
  if_pos ((outNo_par u).symm ▸ h)
/-- Transfer `u ≤ 6` into a slot is the one unit of its round. -/
theorem duty_recv (b : Bool) (k : Fin 4) (u : ℕ) (h : u ≤ 6) : duty (.recv b (par (u + 1)) k) (u / 2) = {0} :=
  if_pos ((inNo_par u).symm ▸ h)

omit [FloatOps F] in
/-- A grant named by its stage and piece. -/
theorem grant_eq (d : Dev nD) (b : Bool) (n : ℕ) (k : Fin 4) : (grant d b (grantNo n k) : sProp 𝕄)
    = iprop(Release.released ES (keyOf d b (grantNo n k)) 1 ∗ reached ER (cell d (.recv b (par n) k)) ((n + 1) / 2)) := by
  have hk := k.isLt
  have h2 : (4 * n + k.val) / 4 = n := by omega
  have h3 : (⟨(4 * n + k.val) % 4, Nat.mod_lt _ (by decide)⟩ : Fin 4) = k := Fin.ext (by show (4 * n + k.val) % 4 = k.val; omega)
  unfold grant
  simp only [h2, h3]

omit [FloatOps F] in
/-- One of separately held things. -/
theorem bigSep_at {I : Type} [DecidableEq I] {s : Finset I} (Φ : I → sProp 𝕄) {i : I} (h : i ∈ s) : bigSep s Φ ⊢ Φ i := bigSep_elim h
omit [FloatOps F] in
/-- Things held over a set, from the ones over a part and over the rest. -/
theorem bigSep_parts {I : Type} [DecidableEq I] {s t : Finset I} (h : t ⊆ s) (Φ : I → sProp 𝕄) :
    iprop(bigSep t Φ ∗ bigSep (s \ t) Φ) ⊢ bigSep s Φ := Entails.of_eq (bigSep_sdiff_split h).symm

section Steps

variable (x : Dev nD → Vec F S4096x512 .f32) (w : Dev nD → Vec F S512x8192 .f32)
  (κ : Dev nD × Cl → ℕ) (κs : Key → ℕ)

/-! ## What every device knows, and what one holds -/

/-- What every device knows throughout: the cells' invariants, that each cell has reached round 0, the slots'
    invariants, and the levels. -/
def recs : sProp 𝕄 :=
  iprop((bigSep Finset.univ fun p : Dev nD × Cl => cellInv ER (Rd x w) (κ p) (cell p.1 p.2))
    ∗ (bigSep Finset.univ fun p : Dev nD × Cl => reached ER (cell p.1 p.2) 0)
    ∗ (bigSep Finset.univ fun y : Key => Release.slotInv ES (κs y) y (keySlot y))
    ∗ levAts L lv)

/-- The records stay true. -/
instance recs_persistent : BI.Persistent (recs x w κ κs) := by unfold recs; infer_instance

/-- A cell's invariant. -/
theorem recs_cell (d : Dev nD) (y : Cl) : recs x w κ κs ⊢ (cellInv ER (Rd x w) (κ (d, y)) (cell d y) : sProp 𝕄) := by
  unfold recs
  iintro ⟨H, -⟩
  iapply (bigSep_at (fun p : Dev nD × Cl => (cellInv ER (Rd x w) (κ p) (cell p.1 p.2) : sProp 𝕄)) (Finset.mem_univ (d, y)))
  iexact H
/-- A cell has reached round 0. -/
theorem recs_reached (d : Dev nD) (y : Cl) : recs x w κ κs ⊢ (reached ER (cell d y) 0 : sProp 𝕄) := by
  unfold recs
  iintro ⟨-, H, -⟩
  iapply (bigSep_at (fun p : Dev nD × Cl => (reached ER (cell p.1 p.2) 0 : sProp 𝕄)) (Finset.mem_univ (d, y)))
  iexact H
/-- A slot's invariant. -/
theorem recs_slot (y : Key) : recs x w κ κs ⊢ (Release.slotInv ES (κs y) y (keySlot y) : sProp 𝕄) := by
  unfold recs
  iintro ⟨-, -, H, -⟩
  iapply (bigSep_at (fun y : Key => (Release.slotInv ES (κs y) y (keySlot y) : sProp 𝕄)) (Finset.mem_univ y))
  iexact H
/-- The levels. -/
theorem recs_lev : recs x w κ κs ⊢ (levAts L lv : sProp 𝕄) := by
  unfold recs
  iintro ⟨-, -, -, H⟩
  iexact H

/-- Device `c` has made its first `n` payments. -/
def due (c : Dev nD) (n : ℕ) : sProp 𝕄 := iprop(∃ W, owes (c : Thread nD τ) (O c n) W)

/-- Device `c` stands at the start of round `r` of its cell `y`. -/
def atR (c : Dev nD) (y : Cl) (r : ℕ) : sProp 𝕄 := iprop(atPos ER (cell c y) r ∅ 0 ∗ reached ER (cell c y) r)

/-! ## Waits for one unit -/

/-- A wait for the one unit of a round: the round's payload comes, and the next round begins. -/
theorem wp_wait_one (c : Dev nD) (y : Cl) (r i n : ℕ) (hi : i < 24) (hlt : lvC y i < max n 1) (hd : duty y r = {0})
    {e : TpuEff nD τ sig (Elt F) Λ₀ .tc PUnit}
    (hw : ∀ K : PUnit → sProp 𝕄, wpE (defs₀ (F := F)) 𝒱₀ (c : Thread nD τ) none Set.univ e K
      = waitSpec (c : Thread nD τ) Set.univ y.loc (amt y) K)
    (K : PUnit → Body F PUnit) (Q : PUnit → sProp 𝕄) :
    iprop(recs x w κ κs ∗ cred (tallyAt (cell c y) i (amt y)) ∗ due c n ∗ atR c y r)
      ⊢ iprop(((due c n ∗ atR c y (r + 1) ∗ pay x w c y r 0) -∗ WP c (K ⟨⟩) Q) -∗ WP c (.op e K) Q) := by
  unfold due atR
  iintro ⟨#HR, Hc, ⟨%W, HO⟩, Hat, -⟩ Hk
  iapply (Rounds.wp_wait_rest_token 𝒱₀ ER (Rd x w) (c : Thread nD τ) none (κ := κ (c, y)) hw (Set.mem_univ _) i
    (O := O c n) (W := W) (R := r) (m := 0) (T := ∅)
    (by rw [Nat.zero_add]; exact ((expect_eq x w c y r).trans (by rw [hd, Finset.card_singleton, Nat.one_mul])).symm)) $$ [Hc HO Hat]
  · isplitr; · iapply (recs_cell x w κ κs c y); iexact HR
    isplitl [Hc]; · iexact Hc
    isplitl [HO]; · iexact HO
    isplitr; · iapply (mayWait_cell c y i n hi hlt); iapply (recs_lev x w κ κs); iexact HR
    iexact Hat
  iintro ⟨HO, Hat, Hr, Hp⟩
  iapply Hk
  isplitl [HO]; · iexists _; iexact HO
  isplitl [Hat Hr]; · isplitl [Hat] <;> iassumption
  ihave Hp := (Entails.of_eq (by
    rw [Finset.sdiff_empty, duties_eq x w c y r, hd, bigSep_singleton, payload_eq x w c y r 0]) :
    (bigSep ((Rd x w).duties (cell c y) r \ ∅) fun i => (Rd x w).payload (cell c y) r i : sProp 𝕄) ⊢ pay x w c y r 0) $$ Hp
  iexact Hp

/-! ## Transfers to the neighbour -/

/-- The rights to the two units of transfer `u`: the one that gives the source back, and the neighbour's. -/
def sendToks (c : Dev nD) (b : Bool) (k : Fin 4) (u : ℕ) : sProp 𝕄 :=
  iprop(dutyTok ER (cell c (.send b (par u) k)) (u / 2) 0
    ∗ dutyTok ER (cell (sendDev b c) (.recv b (par (u + 1)) k)) (u / 2) 0)

/-- What the transfer `u` of device `c` owes its neighbour. -/
theorem O_send (c : Dev nD) (b : Bool) (k : Fin 4) (u : Fin 7) (n : ℕ) (h : (Ob.send b k u).seq = n) :
    O c n = O c (n + 1) + tallyAt (cell (sendDev b c) (.recv b (par (u.val + 1)) k)) (u.val / 2) (N b) := by
  rw [O_pay c _ n h]
  show _ + tallyAt (cell (creditDev (!b) c) _) _ _ = _
  rw [credit_not]
  rfl

/-- A transfer to the neighbour: a partial sum leaves, the neighbour's slot goes with it. -/
theorem wp_sendPiece (c : Dev nD) (b : Bool) (k : Fin 4) (u n : ℕ) (q : Fin 2) (hq : q = par (u + 1)) (hu : u < 7) (hn : (Ob.send b k ⟨u, hu⟩).seq = n)
    (K : PUnit → Body F PUnit) (Q : PUnit → sProp 𝕄) :
    iprop(recs x w κ κs ∗ pieceIs c b (par u) k (psum x w b k u c) ∗ pieceAny (sendDev b c) b q k ∗ due c n
        ∗ sendToks c b k u ∗ reached ER (cell c (.send b (par u) k)) (u / 2)
        ∗ reached ER (cell (sendDev b c) (.recv b q k)) (u / 2))
      ⊢ iprop(((cred (tallyAt (cell c (.send b (par u) k)) 0 (N b)) ∗ due c (n + 1)) -∗ WP c (K ⟨⟩) Q)
        -∗ WP c (.op (.enqueueDma (piece b (par u) k) (.remote (Dev.tc (sendDev b c)) (piece b q k) (.dma (cellAt (sendTab b) (par u) k)))
            (.dma (cellAt (recvTab b) q k)) ((View.wordExact_bits rfl).reshape _ _) ((View.wordExact_bits rfl).reshape _ _)
            ⟨⟨rfl, Or.inl rfl⟩, trivial⟩) K) Q) := by
  subst hq
  unfold pieceIs pieceAny Release.slot due sendToks
  iintro ⟨#HR, ⟨%f, Hs, %hf⟩, ⟨%g, Hd⟩, ⟨%W, HO⟩, ⟨Ht, Ht'⟩, #Hr, #Hr'⟩ Hk
  iapply (Rounds.wp_send_pointsTo 𝒱₀ ER (Rd x w) (c : Thread nD τ) none
      (sem := .dma (cellAt (recvTab b) (par (u + 1)) k)) (κ₁ := κ (c, .send b (par u) k)) (κ₂ := κ (sendDev b c, .recv b (par (u + 1)) k))
      (r₁ := u / 2) (r₂ := u / 2) (d₁ := 0) (d₂ := 0) (fd := g)
      (by rw [show (Rd x w).duties _ _ = duty (.send b (par u) k) (u / 2) from duties_eq x w c (.send b (par u) k) (u / 2),
            duty_send b k u (by omega)]; exact Finset.mem_singleton_self _)
      (by rw [show (Rd x w).duties _ _ = duty (.recv b (par (u + 1)) k) (u / 2) from
              duties_eq x w (sendDev b c) (.recv b (par (u + 1)) k) (u / 2),
            duty_recv b k u (by omega)]; exact Finset.mem_singleton_self _)
      (u / 2) 0 (N b) (N_eq b (par (u + 1)) k)
      (amount_eq x w c (.send b (par u) k) (u / 2) 0)
      (amount_eq x w (sendDev b c) (.recv b (par (u + 1)) k) (u / 2) 0)
      (O c (n + 1)) (O_send c b k ⟨u, hu⟩ n hn) (W := W)
      (by
        rw [show (Rd x w).payload _ _ _ = pay x w c (.send b (par u) k) (u / 2) 0 from payload_eq x w c (.send b (par u) k) (u / 2) 0]
        show _ ⊢ pieceAny c b (par u) k
        unfold pieceAny Release.slot
        iintro H; iexists f; iexact H)
      (by
        rw [show (Rd x w).payload _ _ _ = pay x w (sendDev b c) (.recv b (par (u + 1)) k) (u / 2) 0 from
          payload_eq x w (sendDev b c) (.recv b (par (u + 1)) k) (u / 2) 0]
        show _ ⊢ pieceIs (sendDev b c) b (par (u + 1)) k (psum x w b k (inNo (par (u + 1)) (u / 2)) (creditDev b (sendDev b c)))
        rw [credit_send, inNo_par]
        unfold pieceIs
        iintro H; iexists _
        isplitl [H]; · iexact H
        ipureintro
        rw [View.read_write_univ]; exact hf)) $$ [Hs Hd HO Ht Ht']
  · isplitr; · iapply (recs_cell x w κ κs c (.send b (par u) k)); iexact HR
    isplitr; · iapply (recs_cell x w κ κs (sendDev b c) (.recv b (par (u + 1)) k)); iexact HR
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexists W; iexact HO

/-! ## Grants -/

/-- What grant `j` of device `c` owes its neighbour. -/
theorem O_grant (c : Dev nD) (b : Bool) (k : Fin 4) (s : Fin 6) (n : ℕ) (h : (Ob.grant b k s).seq = n) :
    O c n = O c (n + 1) + tallyAt (cell (creditDev b c) (.credit b)) (grantNo s.val k) 1 := by
  rw [O_pay c _ n h]
  rfl

/-- A grant's number is below 24. -/
theorem grantNo_lt (s : ℕ) (hs : s < 6) (k : Fin 4) : grantNo s k < 24 := by have := k.isLt; show 4 * s + k.val < 24; omega

/-- What a grant hands over is what the device has told. -/
theorem pay_grant (c : Dev nD) (b : Bool) (j : ℕ) :
    (told c b (j + 1) : sProp 𝕄) ⊢ (Rd x w).payload (cell (creditDev b c) (.credit b)) 0 j := by
  rw [payload_eq]
  show _ ⊢ told (sendDev b (creditDev b c)) b (j + 1)
  rw [send_credit]

/-- A grant: the slot just sent from goes back to the neighbour that writes it, which is told of it. -/
theorem wp_grant (c : Dev nD) (b : Bool) (k : Fin 4) (s n : ℕ) (hs : s < 6) (hn : (Ob.grant b k ⟨s, hs⟩).seq = n)
    (K : PUnit → Body F PUnit) (Q : PUnit → sProp 𝕄) :
    iprop(recs x w κ κs ∗ pieceAny c b (par s) k ∗ due c n ∗ told c b (grantNo s k)
        ∗ Release.readerAt ES (keyOf c b (grantNo s k)) 0
        ∗ dutyTok ER (cell (creditDev b c) (.credit b)) 0 (grantNo s k)
        ∗ reached ER (cell c (.recv b (par s) k)) ((s + 1) / 2))
      ⊢ iprop(((due c (n + 1) ∗ told c b (grantNo s k + 1)) -∗ WP c (K ⟨⟩) Q)
        -∗ WP c (.op (.semSignal (creditDev b c : Thread nD τ) (creditSem b) 1) K) Q) := by
  unfold due
  iintro ⟨#HR, Hs, ⟨%W, HO⟩, #Ht, Hrd, Htok, #Hr⟩ Hk
  iapply fupd_wp
  imod (Release.slot_release ES (S := keySlot (keyOf c b (grantNo s k))) (ι := κs (keyOf c b (grantNo s k))) (Set.mem_univ _)
    (keySlot_excl _) 0) $$ [Hs Hrd] with ⟨-, #Hrel⟩
  · isplitr; · iapply (recs_slot x w κ κs (keyOf c b (grantNo s k))); iexact HR
    isplitl [Hrd]; · iexact Hrd
    rw [keySlot_grant c b s hs k]; iexact Hs
  imodintro
  ihave #Ht' : told c b (grantNo s k + 1) $$ []
  · rw [told_succ, grant_eq]
    isplitl
    · isplitl
      · iexact Hrel
      · iexact Hr
    · iexact Ht
  iapply (Rounds.wp_signal 𝒱₀ ER (Rd x w) (c : Thread nD τ) none (dst := (creditDev b c : Thread nD τ))
      (κ := κ (creditDev b c, .credit b)) (r := 0) (d := grantNo s k)
      (by rw [show (Rd x w).duties _ _ = duty (.credit b) 0 from duties_eq x w (creditDev b c) (.credit b) 0]
          exact Finset.mem_range.mpr (grantNo_lt s hs k))
      (amount_eq x w (creditDev b c) (.credit b) 0 (grantNo s k)) (grantNo s k) (O c (n + 1)) (O_grant c b k ⟨s, hs⟩ n hn))
    $$ [HO Htok]
  · isplitr; · iapply (recs_cell x w κ κs (creditDev b c) (.credit b)); iexact HR
    isplitl [HO]; · iexact HO
    isplitl [Htok]; · iexact Htok
    isplitr
    · iapply (pay_grant x w c b (grantNo s k)); iexact Ht'
    · iapply (recs_reached x w κ κs (creditDev b c) (.credit b)); iexact HR
  iintro HO
  iapply Hk
  isplitl [HO]; · iexists W; iexact HO
  iexact Ht'

/-- Device `c` has waited for `n` grants of direction `b`: what it took of its cell, and what it was told. -/
def granted (c : Dev nD) (b : Bool) (n : ℕ) : sProp 𝕄 :=
  iprop(∃ S : Finset ℕ, ⌜S ⊆ Finset.range 24 ∧ n ≤ S.card⌝ ∗ atPos ER (cell c (.credit b)) 0 S n
    ∗ bigSep S fun j => told (sendDev b c) b (j + 1))

/-- A set of more than `n` numbers has one that is at least `n`. -/
theorem exists_ge {S : Finset ℕ} {n : ℕ} (h : n < S.card) : ∃ j ∈ S, n ≤ j := by
  by_contra hc
  push Not at hc
  have hsub : S ⊆ Finset.range n := fun j hj => Finset.mem_range.mpr (hc j hj)
  have := Finset.card_le_card hsub
  rw [Finset.card_range] at this
  omega

/-- A wait for a grant: the neighbour has granted once more. -/
theorem wp_granted (c : Dev nD) (b : Bool) (j n : ℕ) (hj : j < 24) (hlt : lvC (.credit b) j < max n 1)
    (K : PUnit → Body F PUnit) (Q : PUnit → sProp 𝕄) :
    iprop(recs x w κ κs ∗ cred (tallyAt (cell c (.credit b)) j 1) ∗ due c n ∗ granted c b j)
      ⊢ iprop(((due c n ∗ granted c b (j + 1) ∗ grant (sendDev b c) b j) -∗ WP c (K ⟨⟩) Q)
        -∗ WP c (.op (.semWait (creditSem b) 1) K) Q) := by
  unfold due granted
  iintro ⟨#HR, Hc, ⟨%W, HO⟩, ⟨%T, %hT, Hat, #HT⟩⟩ Hk
  have hdut : (Rd x w).duties (cell c (.credit b)) 0 = Finset.range 24 := duties_eq x w c (.credit b) 0
  have hexp : (Rd x w).expect (cell c (.credit b)) 0 = 24 := expect_eq x w c (.credit b) 0
  iapply (Rounds.wp_wait 𝒱₀ ER (Rd x w) (c : Thread nD τ) none (κ := κ (c, .credit b))
    (wpE_semWait_eq 𝒱₀ (c : Thread nD τ) none Set.univ) (Set.mem_univ _) (cr := Finsupp.single j 1)
    (O := O c n) (W := W) {(SemLoc.reg (creditSem b), j)} (R := 0) (m := j) (T := T)
    (Util.total_single j 1) (image_single_subset (SemLoc.reg (creditSem b)) j 1)) $$ [Hc HO Hat]
  · isplitr; · iapply (recs_cell x w κ κs c (.credit b)); iexact HR
    isplitl [Hc]; · iexact Hc
    isplitl [HO]; · iexact HO
    isplitr; · iapply (mayWait_cell c (.credit b) j n hj hlt); iapply (recs_lev x w κ κs); iexact HR
    iexact Hat
  iintro %S ⟨%hS, HO, Hat, Hnew⟩
  obtain ⟨hTS, hSd, hcard⟩ := hS
  rw [hdut] at hSd
  rw [show (Rd x w).duties _ 0 = Finset.range 24 from hdut, show (Rd x w).expect _ 0 = 24 from hexp] at hcard
  have hcard' : j + 1 ≤ S.card := by
    have := Finset.card_sdiff_add_card_eq_card hSd
    rw [Finset.card_range] at this
    omega
  obtain ⟨i, hiS, hi⟩ := exists_ge hcard'
  ihave #HS : bigSep S (fun j => told (sendDev b c) b (j + 1)) $$ [Hnew]
  · iapply (bigSep_parts hTS (fun j => (told (sendDev b c) b (j + 1) : sProp 𝕄)))
    isplitr
    · iexact HT
    · iapply (show (bigSep (S \ T) fun j => (Rd x w).payload (cell c (.credit b)) 0 j : sProp 𝕄)
          ⊢ bigSep (S \ T) fun j => told (sendDev b c) b (j + 1) from
        bigSep_mono fun j _ => Entails.of_eq (payload_eq x w c (.credit b) 0 j))
      iexact Hnew
  iapply Hk
  isplitl [HO]; · iexists _; iexact HO
  isplitl [Hat]
  · iexists S
    isplitr; · ipureintro; exact ⟨hSd, hcard'⟩
    isplitl [Hat]; · iexact Hat
    iexact HS
  · iapply (told_elim (sendDev b c) b (Nat.lt_succ_of_le hi))
    iapply (bigSep_at (fun j => (told (sendDev b c) b (j + 1) : sProp 𝕄)) hiS)
    iexact HS

end Steps

end Cert.KernelIdeal.Ring

end
-- ==== Proof.KernelIdeal.StageRules.lean ====
/-
  What each stage of the ring does for one piece of one direction, and what a sweep over the eight (piece, direction)
  pairs does.
-/
module

public import proofs.«01_k».proof.Proof.KernelIdeal.Steps
public import Idealize.ShloMosaic.Lib.Pipeline.BigSepL

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## The waits as waits of cells -/

/-- The wait for a sent transfer is a wait at its cell, -/
theorem hw_send (c : Dev nD) (b : Bool) (k : Fin 4) (p q : Fin 2) (K : PUnit → sProp 𝕄) :
    wpE (defs₀ (F := F)) 𝒱₀ (c : Thread nD τ) none Set.univ
        (.waitDma2 (cellAt (sendTab b) p k) (piece b q k) (piece b p k) ((View.wordExact_bits rfl).reshape _ _)
          ((View.wordExact_bits rfl).reshape _ _)) K
      = waitSpec (c : Thread nD τ) Set.univ (Cl.send b p k).loc (amt (.send b p k)) K :=
  (wpE_waitDma2_eq 𝒱₀ (c : Thread nD τ) none Set.univ K).trans
    (congrArg (fun n => waitSpec (c : Thread nD τ) Set.univ (Cl.send b p k).loc n K) (N_eq b p k))

/-- the wait for a received one too, -/
theorem hw_recv (c : Dev nD) (b : Bool) (k : Fin 4) (p q : Fin 2) (K : PUnit → sProp 𝕄) :
    wpE (defs₀ (F := F)) 𝒱₀ (c : Thread nD τ) none Set.univ
        (.waitDma2 (cellAt (recvTab b) p k) (piece b q k) (piece b p k) ((View.wordExact_bits rfl).reshape _ _)
          ((View.wordExact_bits rfl).reshape _ _)) K
      = waitSpec (c : Thread nD τ) Set.univ (Cl.recv b p k).loc (amt (.recv b p k)) K :=
  (wpE_waitDma2_eq 𝒱₀ (c : Thread nD τ) none Set.univ K).trans
    (congrArg (fun n => waitSpec (c : Thread nD τ) Set.univ (Cl.recv b p k).loc n K) (N_eq b p k))

/-- and the wait for a copy to the result. -/
theorem hw_out (c : Dev nD) (b : Bool) (k : Fin 4) (K : PUnit → sProp 𝕄) :
    wpE (defs₀ (F := F)) 𝒱₀ (c : Thread nD τ) none Set.univ
        (.waitDma2 (cellAt cc0_scratch8 (outRow b) k) (piece b (par 6) k) (outPiece b k)
          ((View.wordExact_bits rfl).reshape _ _) (View.wordExact_bits rfl)) K
      = waitSpec (c : Thread nD τ) Set.univ (Cl.out b k).loc (amt (.out b k)) K :=
  (wpE_waitDma2_eq 𝒱₀ (c : Thread nD τ) none Set.univ K).trans
    (congrArg (fun n => waitSpec (c : Thread nD τ) Set.univ (Cl.out b k).loc n K) (NO_eq b k))

/-- A program that has ended. -/
theorem WP_ret (c : Dev nD) (Q : PUnit → sProp 𝕄) : Q ⟨⟩ ⊢ WP c (.ret ⟨⟩) Q := by
  rw [WP, wp_ret]; exact fupd_intro

section Rules

variable (x : Dev nD → Vec F S4096x512 .f32) (w : Dev nD → Vec F S512x8192 .f32)
  (κ : Dev nD × Cl → ℕ) (κs : Key → ℕ)

/-! ## What a stage needs and leaves -/

/-- The staged blocks of a device. -/
def staged (c : Dev nD) : sProp 𝕄 :=
  iprop(((stg0.view.loc (c : Thread nD τ)) ↦{fullShare} (x c)) ∗ ((stg1.view.loc (c : Thread nD τ)) ↦{fullShare} (w c)))

/-- Direction `b` of device `c` after `n` of its middle stages: the grants made and the grants waited for. -/
def granting (c : Dev nD) (b : Bool) (n : ℕ) : sProp 𝕄 := iprop(granted c b n ∗ told c b n)

/-- A piece before its first stage: its own slot, the neighbour's, the rights to transfer 0, and its four cells at
    round 0. -/
def before (c : Dev nD) (b : Bool) (k : Fin 4) : sProp 𝕄 :=
  iprop(pieceAny c b (par 0) k ∗ pieceAny (sendDev b c) b (par 1) k ∗ sendToks c b k 0
    ∗ atR c (.send b (par 0) k) 0 ∗ atR c (.send b (par 1) k) 0 ∗ atR c (.recv b (par 1) k) 0 ∗ atR c (.recv b (par 0) k) 0)

/-- A piece between stages, transfer `s` under way from it and to it. -/
def between (c : Dev nD) (b : Bool) (k : Fin 4) (s : ℕ) : sProp 𝕄 :=
  iprop(atR c (.send b (par s) k) (s / 2) ∗ atR c (.send b (par (s + 1)) k) ((s + 1) / 2)
    ∗ atR c (.recv b (par (s + 1)) k) (s / 2) ∗ atR c (.recv b (par s) k) ((s + 1) / 2)
    ∗ cred (tallyAt (cell c (.send b (par s) k)) 0 (N b)))

/-- What middle stage `s` uses up of a piece: the credits of the transfer in and of the grant it waits for, the rights to
    its grant and to its transfer, and the rights to hand its slot back and to take the neighbour's. -/
def stageNeeds (c : Dev nD) (b : Bool) (k : Fin 4) (s : ℕ) : sProp 𝕄 :=
  iprop(cred (tallyAt (cell c (.recv b (par (s + 1)) k)) (s / 2) (N b))
    ∗ cred (tallyAt (cell c (.credit b)) (grantNo s k) 1)
    ∗ dutyTok ER (cell (creditDev b c) (.credit b)) 0 (grantNo s k)
    ∗ sendToks c b k (s + 1)
    ∗ Release.writeTok ES (keyOf (sendDev b c) b (grantNo s k)) 1
    ∗ Release.readerAt ES (keyOf c b (grantNo s k)) 0)

/-- What the last stage uses up of a piece. -/
def lastNeeds (c : Dev nD) (b : Bool) (k : Fin 4) : sProp 𝕄 :=
  iprop(cred (tallyAt (cell c (.recv b (par 7) k)) 3 (N b)) ∗ dutyTok ER (cell c (.out b k)) 0 0
    ∗ atR c (.out b k) 0 ∗ outAny c b k)

/-- The four cells of a piece after its last stage. -/
def ended (c : Dev nD) (b : Bool) (k : Fin 4) : sProp 𝕄 :=
  iprop(atR c (.send b (par 6) k) 4 ∗ atR c (.send b (par 7) k) 3 ∗ atR c (.recv b (par 7) k) 4 ∗ atR c (.recv b (par 6) k) 3
    ∗ pieceAny c b (par 7) k)

/-- A piece after its last stage, its copy to the result under way. -/
def copying (c : Dev nD) (b : Bool) (k : Fin 4) : sProp 𝕄 :=
  iprop(ended c b k ∗ cred (tallyAt (cell c (.out b k)) 0 (NO b)) ∗ atR c (.out b k) 0)

/-- A piece at the end: its finished sum is in the result. -/
def finished (c : Dev nD) (b : Bool) (k : Fin 4) : sProp 𝕄 :=
  iprop(ended c b k ∗ atR c (.out b k) 1 ∗ outIs c b k (result x w b k c) ∗ pieceAny c b (par 6) k)

/-! ## What the waits of a stage bring -/

/-- A transfer out gives its source back. -/
theorem pay_sent (c : Dev nD) (b : Bool) (k : Fin 4) (p : Fin 2) (r : ℕ) :
    (pay x w c (.send b p k) r 0 : sProp 𝕄) ⊢ pieceAny c b p k := .rfl
/-- Transfer `u` in brings the neighbour's partial sum. -/
theorem pay_received (c : Dev nD) (b : Bool) (k : Fin 4) (u : ℕ) :
    (pay x w c (.recv b (par (u + 1)) k) (u / 2) 0 : sProp 𝕄) ⊢ pieceIs c b (par (u + 1)) k (psum x w b k u (creditDev b c)) := by
  show pieceIs c b _ k (psum x w b k (inNo (par (u + 1)) (u / 2)) (creditDev b c)) ⊢ _
  rw [inNo_par]
/-- A copy to the result brings the finished piece and its source. -/
theorem pay_copied (c : Dev nD) (b : Bool) (k : Fin 4) :
    (pay x w c (.out b k) 0 0 : sProp 𝕄) ⊢ iprop(outIs c b k (result x w b k c) ∗ pieceAny c b (par 6) k) := .rfl

/-! ## The stages of one piece -/

/-- The place of a piece's payments in the order. -/
theorem seq_send_succ (b : Bool) (k : Fin 4) (s : ℕ) (hs : s < 6) :
    (Ob.send b k ⟨s + 1, by omega⟩).seq = 16 * s + 10 + 2 * lane b k + 1 := by
  show (if s + 1 = 0 then 2 + lane b k else 16 * (s + 1) - 5 + 2 * lane b k) = _
  rw [if_neg (Nat.succ_ne_zero s)]; omega
/-- The credits of a middle stage come before its payments. -/
theorem lv_recv (b : Bool) (k : Fin 4) (s n : ℕ) (h : 16 * s + 10 + 2 * lane b k ≤ n) :
    lvC (.recv b (par (s + 1)) k) (s / 2) < max n 1 := by
  show (if inNo (par (s + 1)) (s / 2) = 0 then 2 + lane b k else 16 * inNo (par (s + 1)) (s / 2) - 5 + 2 * lane b k) < _
  rw [inNo_par]
  split <;> omega
/-- The credit waited for in a stage is owed before all that is owed then. -/
theorem lv_credit (b : Bool) (k : Fin 4) (s : ℕ) :
    lvC (.credit b) (grantNo s k) < max (16 * s + 10 + 2 * lane b k + 1) 1 := by
  have hk := k.isLt
  show 16 * ((4 * s + k.val) / 4) + 10 + 2 * (2 * ((4 * s + k.val) % 4) + b.toNat) < max (16 * s + 10 + 2 * (2 * k.val + b.toNat) + 1) 1
  omega

/-- The first stage of a piece. -/
theorem stageI_rule (c : Dev nD) (b : Bool) (k : Fin 4) (Q : PUnit → sProp 𝕄) :
    iprop(recs x w κ κs ∗ staged x w c ∗ due c (2 + lane b k) ∗ before c b k
        ∗ ((staged x w c ∗ due c (2 + lane b k + 1) ∗ between c b k 0) -∗ Q ⟨⟩))
      ⊢ WP c (stageI b k c) Q := by
  unfold stageI
  simp only [Prog.lift, Prog.bind_op, Prog.bind_ret, Prog.pure_eq_ret]
  unfold staged before
  iintro ⟨#HR, ⟨Hx, Hw⟩, HO, ⟨Hp, Hq, Ht, Hs0, Hs1, Hr1, Hr0⟩, Hk⟩
  iapply (wp_loadX c (x c) (offI b c) (offI_inb b c)) $$ Hx; iintro Hx
  iapply (wp_loadW c (w c) b k) $$ Hw; iintro Hw
  iapply (wp_loadPiece_any c b (par 0) k) $$ Hp; iintro %_ Hp
  iapply (wp_storePiece c b (par 0) k (prodI x w b k c)) $$ Hp; iintro Hp
  unfold atR
  icases Hs0 with ⟨Hs0, #Hr⟩
  iapply (wp_sendPiece x w κ κs c b k 0 (2 + lane b k) (par 1) rfl (by decide) rfl) $$ [Hp Hq HO Ht]
  · isplitr; · iexact HR
    isplitl [Hp]; · iexact Hp
    isplitl [Hq]; · iexact Hq
    isplitl [HO]; · iexact HO
    isplitl [Ht]; · iexact Ht
    isplitr; · iexact Hr
    iapply (recs_reached x w κ κs (sendDev b c) (.recv b (par (0 + 1)) k)); iexact HR
  iintro ⟨Hc, HO⟩
  iapply (WP_ret c Q)
  iapply Hk
  isplitl [Hx Hw]; · isplitl [Hx] <;> iassumption
  isplitl [HO]; · iexact HO
  unfold between atR
  isplitl [Hs0]; · isplitl [Hs0]; · iexact Hs0
                   iexact Hr
  isplitl [Hs1]; · iexact Hs1
  isplitl [Hr1]; · iexact Hr1
  isplitl [Hr0]; · iexact Hr0
  iexact Hc

/-- Middle stage `s` of a piece. -/
theorem stageM_rule (c : Dev nD) (b : Bool) (k : Fin 4) (s : ℕ) (hs : s < 6) (Q : PUnit → sProp 𝕄) :
    iprop(recs x w κ κs ∗ staged x w c ∗ due c (16 * s + 10 + 2 * lane b k) ∗ granting c b (grantNo s k)
        ∗ between c b k s ∗ stageNeeds c b k s
        ∗ ((staged x w c ∗ due c (16 * s + 10 + 2 * lane b k + 2) ∗ granting c b (grantNo s k + 1) ∗ between c b k (s + 1)) -∗ Q ⟨⟩))
      ⊢ WP c (stageM b k (stageNo s) (par s) (par (s + 1)) c) Q := by
  unfold stageM
  simp only [semSignalWord, semWaitWord, Prog.lift, Prog.bind_op, Prog.bind_ret, Prog.pure_eq_ret]
  unfold staged granting between stageNeeds
  iintro ⟨#HR, ⟨Hx, Hw⟩, HO, ⟨Hg, #Ht⟩, ⟨Hs0, Hs1, Hr1, Hr0, HcS⟩, ⟨HcR, HcG, HtG, HtS, Hwt, Hrd⟩, Hk⟩
  -- the transfer before last is out of its slot
  iapply (wp_wait_one x w κ κs c (.send b (par s) k) (s / 2) 0 (16 * s + 10 + 2 * lane b k) (by omega)
    (Nat.lt_of_lt_of_le (Nat.zero_lt_succ 0) (le_max_right _ _)) (duty_send b k s (by omega))
    (hw_send c b k (par s) (par (s + 1)))) $$ [HcS HO Hs0]
  · isplitr; · iexact HR
    isplitl [HcS]; · iexact HcS
    isplitl [HO]; · iexact HO
    iexact Hs0
  iintro ⟨HO, Hs0, Hp⟩
  ihave Hp := (pay_sent x w c b k (par s) (s / 2)) $$ Hp
  -- the neighbour's partial sum has arrived
  iapply (wp_wait_one x w κ κs c (.recv b (par (s + 1)) k) (s / 2) (s / 2) (16 * s + 10 + 2 * lane b k) (by omega)
    (lv_recv b k s _ le_rfl) (duty_recv b k s (by omega)) (hw_recv c b k (par (s + 1)) (par s))) $$ [HcR HO Hr1]
  · isplitr; · iexact HR
    isplitl [HcR]; · iexact HcR
    isplitl [HO]; · iexact HO
    iexact Hr1
  iintro ⟨HO, Hr1, Hq⟩
  ihave Hq := (pay_received x w c b k s) $$ Hq
  -- the slot sent from goes back
  unfold atR
  icases Hr0 with ⟨Hr0, #Hr⟩
  iapply (wp_grant x w κ κs c b k s (16 * s + 10 + 2 * lane b k) hs rfl) $$ [Hp HO HtG Hrd]
  · isplitr; · iexact HR
    isplitl [Hp]; · iexact Hp
    isplitl [HO]; · iexact HO
    isplitr; · iexact Ht
    isplitl [Hrd]; · iexact Hrd
    isplitl [HtG]; · iexact HtG
    iexact Hr
  iintro ⟨HO, #Ht'⟩
  -- the next product is added
  iapply (wp_loadPiece c b (par (s + 1)) k (psum x w b k s (creditDev b c))) $$ Hq
  iintro %a %ha Hq
  iapply (wp_loadX c (x c) (offM b (stageNo s) c) (offM_inb b (stageNo s) c)) $$ Hx; iintro Hx
  iapply (wp_loadW c (w c) b k) $$ Hw; iintro Hw
  ihave Hq := (pieceIs_any c b (par (s + 1)) k (psum x w b k s (creditDev b c))) $$ Hq
  iapply (wp_loadPiece_any c b (par (s + 1)) k) $$ Hq; iintro %_ Hq
  have hv : addf (shapeCast S512x1024 a shapeCasts_S1x512x1024_S512x1024) (prodM x w b k s c) = psum x w b k (s + 1) c := by
    rw [ha]; rfl
  iapply (wp_storePiece c b (par (s + 1)) k (addf (shapeCast S512x1024 a shapeCasts_S1x512x1024_S512x1024) (prodM x w b k s c))) $$ Hq
  rw [hv]
  iintro Hq
  -- the neighbour's slot is free
  iapply (wp_granted x w κ κs c b (grantNo s k) (16 * s + 10 + 2 * lane b k + 1) (grantNo_lt s hs k) (lv_credit b k s)) $$ [HcG HO Hg]
  · isplitr; · iexact HR
    isplitl [HcG]; · iexact HcG
    isplitl [HO]; · iexact HO
    iexact Hg
  iintro ⟨HO, Hg, #Hgr⟩
  ihave #Hgr := (Entails.of_eq (grant_eq (F := F) (sendDev b c) b s k)) $$ Hgr
  icases Hgr with ⟨#Hrel, #Hrn⟩
  iapply fupd_wp
  imod (Release.slot_take ES (S := keySlot (keyOf (sendDev b c) b (grantNo s k))) (ι := κs (keyOf (sendDev b c) b (grantNo s k)))
    (Set.mem_univ _) 1) $$ [Hwt] with Hn
  · isplitr; · iapply (recs_slot x w κ κs (keyOf (sendDev b c) b (grantNo s k))); iexact HR
    isplitr; · iexact Hrel
    iexact Hwt
  imodintro
  ihave Hn := (Entails.of_eq (keySlot_grant (F := F) (sendDev b c) b s hs k)) $$ Hn
  -- the sum goes on
  icases Hs1 with ⟨Hs1, #Hrs⟩
  have hpar : par (s + 1 + 1) = par s := par_add_two s
  iapply (wp_sendPiece x w κ κs c b k (s + 1) (16 * s + 10 + 2 * lane b k + 1) (par s) hpar.symm (by omega) (seq_send_succ b k s hs)) $$ [Hq Hn HO HtS]
  · isplitr; · iexact HR
    isplitl [Hq]; · iexact Hq
    isplitl [Hn]; · iexact Hn
    isplitl [HO]; · iexact HO
    isplitl [HtS]; · iexact HtS
    isplitr; · iexact Hrs
    iexact Hrn
  iintro ⟨Hc, HO⟩
  iapply (WP_ret c Q)
  iapply Hk
  isplitl [Hx Hw]; · isplitl [Hx] <;> iassumption
  isplitl [HO]; · iexact HO
  isplitl [Hg]
  · isplitl [Hg]; · iexact Hg
    iexact Ht'
  have h2 : (s + 1 + 1) / 2 = s / 2 + 1 := by omega
  rw [hpar, h2]
  isplitl [Hs1]
  · isplitl [Hs1]; · iexact Hs1
    iexact Hrs
  isplitl [Hs0]; · iexact Hs0
  isplitl [Hr0]
  · isplitl [Hr0]; · iexact Hr0
    iexact Hr
  isplitl [Hr1]; · iexact Hr1
  iexact Hc

/-- The copy of a finished piece to the result. -/
theorem wp_copyOut (c : Dev nD) (b : Bool) (k : Fin 4) (K : PUnit → Body F PUnit) (Q : PUnit → sProp 𝕄) :
    iprop(recs x w κ κs ∗ pieceIs c b (par 6) k (result x w b k c) ∗ outAny c b k ∗ dutyTok ER (cell c (.out b k)) 0 0)
      ⊢ iprop((cred (tallyAt (cell c (.out b k)) 0 (NO b)) -∗ WP c (K ⟨⟩) Q)
        -∗ WP c (.op (.enqueueDma (piece b (par 6) k) (.here (outPiece b k)) (.dma (cellAt cc0_scratch8 (outRow b) k))
          ((View.wordExact_bits rfl).reshape _ _) (View.wordExact_bits rfl) ⟨Or.inl rfl, trivial⟩) K) Q) := by
  unfold pieceIs outAny Release.slot
  iintro ⟨#HR, ⟨%f, Hp, %hf⟩, ⟨%g, Ho⟩, Ht⟩ Hk
  iapply (Rounds.wp_copy_pointsTo 𝒱₀ ER (Rd x w) (c : Thread nD τ) none (src := piece b (par 6) k) (dst := outPiece b k)
      (sem := .dma (cellAt cc0_scratch8 (outRow b) k)) (q := fullShare) (fs := f) (fd := g) (κ := κ (c, .out b k)) (r := 0) (d := 0)
      (by rw [show (Rd x w).duties _ _ = duty (.out b k) 0 from duties_eq x w c (.out b k) 0]; exact Finset.mem_singleton_self _)
      0 (NO b) (NO_eq b k) (amount_eq x w c (.out b k) 0 0)
      (by
        rw [show (Rd x w).payload _ _ _ = pay x w c (.out b k) 0 0 from payload_eq x w c (.out b k) 0 0]
        show _ ⊢ iprop(outIs c b k (result x w b k c) ∗ pieceAny c b (par 6) k)
        unfold outIs pieceAny Release.slot
        iintro ⟨H1, H2⟩
        isplitl [H1]
        · iexists _
          isplitl [H1]; · iexact H1
          ipureintro
          rw [View.read_write_univ]; exact hf
        · iexists f; iexact H2)) $$ [Hp Ho Ht]
  · isplitr; · iapply (recs_cell x w κ κs c (.out b k)); iexact HR
    isplitl [Hp]; · iexact Hp
    isplitl [Ho]; · iexact Ho
    isplitl [Ht]; · iexact Ht
    iapply (recs_reached x w κ κs c (.out b k)); iexact HR
  iexact Hk

/-- The last stage of a piece. -/
theorem stageL_rule (c : Dev nD) (b : Bool) (k : Fin 4) (Q : PUnit → sProp 𝕄) :
    iprop(recs x w κ κs ∗ staged x w c ∗ due c 106 ∗ between c b k 6 ∗ lastNeeds c b k
        ∗ ((staged x w c ∗ due c 106 ∗ copying c b k) -∗ Q ⟨⟩))
      ⊢ WP c (stageL b k c) Q := by
  unfold stageL
  simp only [Prog.lift, Prog.bind_op, Prog.bind_ret, Prog.pure_eq_ret]
  unfold staged between lastNeeds
  have hlane : lane b k < 8 := by revert b k; decide
  iintro ⟨#HR, ⟨Hx, Hw⟩, HO, ⟨Hs0, Hs1, Hr1, Hr0, HcS⟩, ⟨HcR, HtO, HaO, Ho⟩, Hk⟩
  iapply (wp_wait_one x w κ κs c (.send b (par 6) k) 3 0 106 (by omega) (by show 0 < 106; decide) (duty_send b k 6 (by omega))
    (hw_send c b k (par 6) (par 7))) $$ [HcS HO Hs0]
  · isplitr; · iexact HR
    isplitl [HcS]; · iexact HcS
    isplitl [HO]; · iexact HO
    iexact Hs0
  iintro ⟨HO, Hs0, Hp⟩
  iapply (wp_wait_one x w κ κs c (.recv b (par 7) k) 3 3 106 (by omega)
    (by
      show 16 * 6 - 5 + 2 * lane b k < 106
      omega) (duty_recv b k 6 (by omega)) (hw_recv c b k (par 7) (par 6))) $$ [HcR HO Hr1]
  · isplitr; · iexact HR
    isplitl [HcR]; · iexact HcR
    isplitl [HO]; · iexact HO
    iexact Hr1
  iintro ⟨HO, Hr1, Hq⟩
  ihave Hp := (pay_sent x w c b k (par 6) 3) $$ Hp
  ihave Hq := (pay_received x w c b k 6) $$ Hq
  iapply (wp_loadPiece c b (par 7) k (psum x w b k 6 (creditDev b c))) $$ Hq
  iintro %a %ha Hq
  iapply (wp_loadX c (x c) (k0_off5 c) (k0_off5_inb c)) $$ Hx; iintro Hx
  iapply (wp_loadW c (w c) b k) $$ Hw; iintro Hw
  iapply (wp_loadPiece_any c b (par 6) k) $$ Hp; iintro %_ Hp
  have hv : maximumf (addf (shapeCast S512x1024 a shapeCasts_S1x512x1024_S512x1024) (prodL x w b k c))
      (broadcast S512x1024 (Scalar.ofBits .f32 0x00000000#32)) = result x w b k c := by
    rw [ha]; rfl
  iapply (wp_storePiece c b (par 6) k (maximumf (addf (shapeCast S512x1024 a shapeCasts_S1x512x1024_S512x1024) (prodL x w b k c))
      (broadcast S512x1024 (Scalar.ofBits .f32 0x00000000#32)))) $$ Hp
  rw [hv]
  iintro Hp
  iapply (wp_copyOut x w κ κs c b k) $$ [Hp Ho HtO]
  · isplitr; · iexact HR
    isplitl [Hp]; · iexact Hp
    isplitl [Ho]; · iexact Ho
    iexact HtO
  iintro HcO
  iapply (WP_ret c Q)
  iapply Hk
  isplitl [Hx Hw]; · isplitl [Hx] <;> iassumption
  isplitl [HO]; · iexact HO
  unfold copying ended
  isplitl [Hs0 Hs1 Hr1 Hr0 Hq]
  · isplitl [Hs0]; · iexact Hs0
    isplitl [Hs1]; · iexact Hs1
    isplitl [Hr1]; · iexact Hr1
    isplitl [Hr0]; · iexact Hr0
    iapply (pieceIs_any c b (par 7) k (psum x w b k 6 (creditDev b c)))
    iexact Hq
  isplitl [HcO]; · iexact HcO
  iexact HaO

/-- The wait for a piece's copy. -/
theorem stageO_rule (c : Dev nD) (b : Bool) (k : Fin 4) (Q : PUnit → sProp 𝕄) :
    iprop(recs x w κ κs ∗ due c 106 ∗ copying c b k ∗ ((due c 106 ∗ finished x w c b k) -∗ Q ⟨⟩))
      ⊢ WP c (stageO b k) Q := by
  unfold stageO
  simp only [Prog.lift, Prog.bind_op, Prog.bind_ret, Prog.pure_eq_ret]
  unfold copying finished
  iintro ⟨#HR, HO, ⟨He, Hc, Ha⟩, Hk⟩
  iapply (wp_wait_one x w κ κs c (.out b k) 0 0 106 (by omega) (by show 0 < 106; decide) rfl (hw_out c b k)) $$ [Hc HO Ha]
  · isplitr; · iexact HR
    isplitl [Hc]; · iexact Hc
    isplitl [HO]; · iexact HO
    iexact Ha
  iintro ⟨HO, Ha, Hp⟩
  ihave Hp := (pay_copied x w c b k) $$ Hp
  icases Hp with ⟨Ho, Hp⟩
  iapply (WP_ret c Q)
  iapply Hk
  isplitl [HO]; · iexact HO
  isplitl [He]; · iexact He
  isplitl [Ha]; · iexact Ha
  isplitl [Ho]; · iexact Ho
  iexact Hp

/-! ## Sweeps -/

/-- The pairs in the order a sweep takes them. -/
abbrev lanes : List (Bool × Fin 4) := [(false, 0), (true, 0), (false, 1), (true, 1), (false, 2), (true, 2), (false, 3), (true, 3)]

/-- Programs run one after the other over a list. -/
def runOver {I : Type} (f : I → Body F PUnit) : List I → Body F PUnit
  | [] => pure ⟨⟩
  | i :: l => do
    f i
    runOver f l

/-- A sweep runs over the eight pairs in order. -/
theorem sweep_eq (f : Bool → Fin 4 → Body F PUnit) : sweep f = runOver (fun p : Bool × Fin 4 => f p.1 p.2) lanes := by
  unfold sweep lanes
  simp only [runOver, bind_pure_unit]

/-- Programs over a list whose members stand one after the other in an order: `G n` is held before the member at place
    `n`, and each member turns its own `A` into its own `B`. -/
theorem runOver_rule {I : Type} (c : Dev nD) (f : I → Body F PUnit) (place : I → ℕ) (G : ℕ → sProp 𝕄) (A B : I → sProp 𝕄) :
    ∀ (l : List I) (n : ℕ), l.map place = List.range' n l.length →
      (∀ i ∈ l, ∀ Q : PUnit → sProp 𝕄, iprop(G (place i) ∗ A i ∗ ((G (place i + 1) ∗ B i) -∗ Q ⟨⟩)) ⊢ WP c (f i) Q) →
      ∀ Q : PUnit → sProp 𝕄, iprop(G n ∗ bigSepL l A ∗ ((G (n + l.length) ∗ bigSepL l B) -∗ Q ⟨⟩)) ⊢ WP c (runOver f l) Q
  | [], n, _, _, Q => by
    unfold runOver
    rw [Prog.pure_eq_ret, WP, wp_ret]
    iintro ⟨HG, HA, Hk⟩
    imodintro
    iapply Hk
    isplitl [HG]; · iexact HG
    iexact HA
  | i :: l, n, hl, h, Q => by
    rw [List.map_cons, List.length_cons, List.range'_succ, List.cons.injEq] at hl
    obtain ⟨h1, h2⟩ := hl
    unfold runOver
    rw [bigSepL_cons', bigSepL_cons', WP, wp_bind, List.length_cons]
    iintro ⟨HG, ⟨HA, HAs⟩, Hk⟩
    iapply (h i List.mem_cons_self)
    rw [h1]
    isplitl [HG]; · iexact HG
    isplitl [HA]; · iexact HA
    iintro ⟨HG, HB⟩
    iapply (runOver_rule c f place G A B l (n + 1) h2 (fun j hj => h j (List.mem_cons_of_mem i hj)) Q)
    isplitl [HG]; · iexact HG
    isplitl [HAs]; · iexact HAs
    iintro ⟨HG, HBs⟩
    iapply Hk
    isplitl [HG]
    · rw [show n + (l.length + 1) = n + 1 + l.length by omega]; iexact HG
    · isplitl [HB] <;> iassumption

/-- A sweep. -/
theorem sweep_rule (c : Dev nD) (f : Bool → Fin 4 → Body F PUnit) (G : ℕ → sProp 𝕄) (A B : Bool × Fin 4 → sProp 𝕄)
    (h : ∀ b k (Q : PUnit → sProp 𝕄), iprop(G (lane b k) ∗ A (b, k) ∗ ((G (lane b k + 1) ∗ B (b, k)) -∗ Q ⟨⟩)) ⊢ WP c (f b k) Q)
    (Q : PUnit → sProp 𝕄) :
    iprop(G 0 ∗ bigSep Finset.univ A ∗ ((G 8 ∗ bigSep Finset.univ B) -∗ Q ⟨⟩)) ⊢ WP c (sweep f) Q := by
  rw [sweep_eq, bigSep_univ_eq_bigSepL lanes (by decide) (by decide), bigSep_univ_eq_bigSepL lanes (by decide) (by decide)]
  exact runOver_rule c _ (fun p => lane p.1 p.2) G A B lanes 0 (by decide) (fun p _ Q => h p.1 p.2 Q) Q

end Rules

end Cert.KernelIdeal.Ring

end
-- ==== Proof.KernelIdeal.BodyRule.lean ====
/-
  The whole body of the kernel on one device: the barrier, the sweeps, and what is held at the end.
-/
module

public import proofs.«01_k».proof.Proof.KernelIdeal.StageRules

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

omit [FloatOps F] in
/-- Something held for both directions is held for one and for the other. -/
theorem both_split (b : Bool) (Φ : Bool → sProp 𝕄) : bigSep Finset.univ Φ = iprop(Φ b ∗ Φ (!b)) := by
  cases b
  · exact bigSep_univ_eq_bigSepL [false, true] (by decide) (by decide) Φ
  · exact bigSep_univ_eq_bigSepL [true, false] (by decide) (by decide) Φ

/-- How many pieces of direction `b` come before place `l` of a sweep. -/
abbrev passed (b : Bool) (l : ℕ) : ℕ := (l + (1 - b.toNat)) / 2

/-- A pair comes after as many pieces of its own direction as its number says, -/
theorem passed_here (b : Bool) (k : Fin 4) : passed b (lane b k) = k.val := by cases b <;> (simp only [passed, lane, Bool.toNat]; dsimp; omega)
/-- and after it there is one more; -/
theorem passed_next (b : Bool) (k : Fin 4) : passed b (lane b k + 1) = k.val + 1 := by cases b <;> (simp only [passed, lane, Bool.toNat]; dsimp; omega)
/-- of the other direction it adds none. -/
theorem passed_other (b : Bool) (k : Fin 4) : passed (!b) (lane b k + 1) = passed (!b) (lane b k) := by
  revert b k; decide
/-- A sweep starts with no piece passed -/
theorem passed_start (b : Bool) : passed b 0 = 0 := by revert b; decide
/-- and ends with the four of each direction. -/
theorem passed_end (b : Bool) : passed b 8 = 4 := by revert b; decide

section Rules

variable (x : Dev nD → Vec F S4096x512 .f32) (w : Dev nD → Vec F S512x8192 .f32)
  (κ : Dev nD × Cl → ℕ) (κs : Key → ℕ)

/-! ## The barrier -/

/-- The right to the barrier unit a device pays the neighbour it grants in direction `t`. -/
def barTok (c : Dev nD) (t : Bool) : sProp 𝕄 := dutyTok ER (cell (creditDev t c) .bar) 0 t.toNat

/-- What a barrier signal owes its neighbour. -/
theorem O_bar (c : Dev nD) (t : Bool) (n : ℕ) (h : (Ob.bar t).seq = n) :
    O c n = O c (n + 1) + tallyAt (cell (creditDev t c) .bar) 0 1 := by
  rw [O_pay c _ n h]
  rfl

/-- What a barrier unit hands over is what the device lends. -/
theorem pay_bar (c : Dev nD) (t : Bool) :
    (lent c t : sProp 𝕄) ⊢ (Rd x w).payload (cell (creditDev t c) .bar) 0 t.toNat := by
  rw [payload_eq]
  show _ ⊢ lent (sendDev (t.toNat == 1) (creditDev t c)) (t.toNat == 1)
  rw [show (t.toNat == 1) = t by cases t <;> rfl, send_credit]

/-- One signal of the barrier, which lends the slots of one direction. -/
theorem wp_signalBar (c : Dev nD) (t : Bool) (n : ℕ) (hn : (Ob.bar t).seq = n) (K : PUnit → Body F PUnit) (Q : PUnit → sProp 𝕄) :
    iprop(recs x w κ κs ∗ lent c t ∗ due c n ∗ barTok c t)
      ⊢ iprop((due c (n + 1) -∗ WP c (K ⟨⟩) Q) -∗ WP c (.op (.semSignal (creditDev t c : Thread nD τ) barSem 1) K) Q) := by
  unfold due barTok
  iintro ⟨#HR, Hl, ⟨%W, HO⟩, Ht⟩ Hk
  iapply (Rounds.wp_signal 𝒱₀ ER (Rd x w) (c : Thread nD τ) none (dst := (creditDev t c : Thread nD τ))
      (κ := κ (creditDev t c, .bar)) (r := 0) (d := t.toNat)
      (by rw [show (Rd x w).duties _ _ = duty .bar 0 from duties_eq x w (creditDev t c) .bar 0]
          cases t <;> decide)
      (amount_eq x w (creditDev t c) .bar 0 t.toNat) 0 (O c (n + 1)) (O_bar c t n hn)) $$ [HO Hl Ht]
  · isplitr; · iapply (recs_cell x w κ κs (creditDev t c) .bar); iexact HR
    isplitl [HO]; · iexact HO
    isplitl [Ht]; · iexact Ht
    isplitl [Hl]; · iapply (pay_bar x w c t); iexact Hl
    iapply (recs_reached x w κ κs (creditDev t c) .bar); iexact HR
  iintro HO
  iapply Hk
  iexists W; iexact HO

/-- What the barrier's wait brings: both neighbours' slots. -/
theorem pay_bars (c : Dev nD) :
    (bigSep ((Rd x w).duties (cell c .bar) 0 \ ∅) fun i => (Rd x w).payload (cell c .bar) 0 i : sProp 𝕄)
      ⊢ bigSep Finset.univ fun b => lent (sendDev b c) b := by
  rw [Finset.sdiff_empty, duties_eq x w c .bar 0]
  show bigSep ({0, 1} : Finset ℕ) _ ⊢ _
  rw [bigSep_insert (by decide), bigSep_singleton, payload_eq, payload_eq, both_split false]
  exact .rfl

/-- The barrier. -/
theorem barrier_rule (c : Dev nD) (Q : PUnit → sProp 𝕄) :
    iprop(recs x w κ κs ∗ due c 0 ∗ (bigSep Finset.univ fun t => iprop(lent c t ∗ barTok c t))
        ∗ cred (tallyAt (cell c .bar) 0 2) ∗ atR c .bar 0
        ∗ ((due c 2 ∗ atR c .bar 1 ∗ bigSep Finset.univ fun b => lent (sendDev b c) b) -∗ Q ⟨⟩))
      ⊢ WP c (barrier c) Q := by
  unfold barrier
  simp only [semSignalWord, semWaitWord, Prog.lift, Prog.bind_op, Prog.bind_ret, Prog.pure_eq_ret]
  rw [both_split false]
  iintro ⟨#HR, HO, ⟨⟨Hl0, Ht0⟩, ⟨Hl1, Ht1⟩⟩, Hc, Ha, Hk⟩
  iapply (wp_signalBar x w κ κs c false 0 rfl) $$ [Hl0 HO Ht0]
  · isplitr; · iexact HR
    isplitl [Hl0]; · iexact Hl0
    isplitl [HO]; · iexact HO
    iexact Ht0
  iintro HO
  iapply (wp_signalBar x w κ κs c true 1 rfl) $$ [Hl1 HO Ht1]
  · isplitr; · iexact HR
    isplitl [Hl1]; · iexact Hl1
    isplitl [HO]; · iexact HO
    iexact Ht1
  iintro HO
  unfold due atR
  icases HO with ⟨%W, HO⟩
  icases Ha with ⟨Ha, -⟩
  iapply (Rounds.wp_wait_rest_token 𝒱₀ ER (Rd x w) (c : Thread nD τ) none (κ := κ (c, .bar))
      (wpE_semWait_eq 𝒱₀ (c : Thread nD τ) none Set.univ) (Set.mem_univ _) 0 (O := O c 2) (W := W) (R := 0) (m := 0) (T := ∅)
      (by rw [Nat.zero_add]; exact (expect_eq x w c .bar 0).symm)) $$ [Hc HO Ha]
  · isplitr; · iapply (recs_cell x w κ κs c .bar); iexact HR
    isplitl [Hc]; · iexact Hc
    isplitl [HO]; · iexact HO
    isplitr
    · iapply (mayWait_cell c .bar 0 2 (by decide) (by decide)); iapply (recs_lev x w κ κs); iexact HR
    iexact Ha
  iintro ⟨HO, Ha, Hr, Hp⟩
  ihave Hp := (pay_bars x w c) $$ Hp
  iapply (WP_ret c Q)
  iapply Hk
  isplitl [HO]; · iexists _; iexact HO
  isplitl [Ha Hr]; · isplitl [Ha] <;> iassumption
  iexact Hp

/-! ## The sweeps -/

/-- The sweep of first stages. -/
theorem sweepI_rule (c : Dev nD) (Q : PUnit → sProp 𝕄) :
    iprop(recs x w κ κs ∗ staged x w c ∗ due c 2 ∗ (bigSep Finset.univ fun p : Bool × Fin 4 => before c p.1 p.2)
        ∗ ((staged x w c ∗ due c 10 ∗ bigSep Finset.univ fun p : Bool × Fin 4 => between c p.1 p.2 0) -∗ Q ⟨⟩))
      ⊢ WP c (sweep fun b k => stageI b k c) Q := by
  iintro ⟨#HR, Hst, HO, Hb, Hk⟩
  iapply (sweep_rule c (fun b k => stageI b k c) (fun l => iprop(recs x w κ κs ∗ staged x w c ∗ due c (2 + l)))
    (fun p => before c p.1 p.2) (fun p => between c p.1 p.2 0) (fun b k Q => by
      iintro ⟨⟨#HR, Hst, HO⟩, Hb, Hk⟩
      iapply (stageI_rule x w κ κs c b k Q)
      isplitr; · iexact HR
      isplitl [Hst]; · iexact Hst
      isplitl [HO]; · iexact HO
      isplitl [Hb]; · iexact Hb
      iintro ⟨Hst, HO, Hb⟩
      iapply Hk
      isplitr [Hb]
      · isplitr; · iexact HR
        isplitl [Hst]; · iexact Hst
        iexact HO
      · iexact Hb) Q)
  isplitl [Hst HO]
  · isplitr; · iexact HR
    isplitl [Hst]; · iexact Hst
    iexact HO
  isplitl [Hb]; · iexact Hb
  iintro ⟨⟨-, Hst, HO⟩, Hb⟩
  iapply Hk
  isplitl [Hst]; · iexact Hst
  isplitl [HO]; · iexact HO
  iexact Hb

/-- What is held between sweeps: before middle stage `s` of every piece. -/
def middle (c : Dev nD) (s : ℕ) : sProp 𝕄 :=
  iprop(recs x w κ κs ∗ staged x w c ∗ due c (16 * s + 10) ∗ (bigSep Finset.univ fun b => granting c b (4 * s))
    ∗ bigSep Finset.univ fun p : Bool × Fin 4 => between c p.1 p.2 s)

/-- What is held before place `l` of the sweep of middle stages `s`. -/
def inMiddle (c : Dev nD) (s l : ℕ) : sProp 𝕄 :=
  iprop(recs x w κ κs ∗ staged x w c ∗ due c (16 * s + 10 + 2 * l)
    ∗ bigSep Finset.univ fun b => granting c b (4 * s + passed b l))

/-- One middle stage of one piece within its sweep. -/
theorem stageM_place (c : Dev nD) (s : ℕ) (hs : s < 6) (b : Bool) (k : Fin 4) (Q : PUnit → sProp 𝕄) :
    iprop(inMiddle x w κ κs c s (lane b k) ∗ iprop(between c b k s ∗ stageNeeds c b k s)
        ∗ ((inMiddle x w κ κs c s (lane b k + 1) ∗ between c b k (s + 1)) -∗ Q ⟨⟩))
      ⊢ WP c (stageM b k (stageNo s) (par s) (par (s + 1)) c) Q := by
  unfold inMiddle
  rw [both_split b, both_split b, passed_here, passed_next, passed_other]
  iintro ⟨⟨#HR, Hst, HO, ⟨Hg, Hg'⟩⟩, ⟨Hb, Hn⟩, Hk⟩
  iapply (stageM_rule x w κ κs c b k s hs Q)
  isplitr; · iexact HR
  isplitl [Hst]; · iexact Hst
  isplitl [HO]; · iexact HO
  isplitl [Hg]; · iexact Hg
  isplitl [Hb]; · iexact Hb
  isplitl [Hn]; · iexact Hn
  iintro ⟨Hst, HO, Hg, Hb⟩
  iapply Hk
  isplitr [Hb]
  · isplitr; · iexact HR
    isplitl [Hst]; · iexact Hst
    isplitl [HO]; · iexact HO
    isplitl [Hg]; · iexact Hg
    iexact Hg'
  · iexact Hb

omit [FloatOps F] in
/-- The grants before a sweep are those at its first place; -/
theorem granting_start (c : Dev nD) (s : ℕ) : (bigSep Finset.univ fun b => granting c b (4 * s) : sProp 𝕄)
    ⊢ bigSep Finset.univ fun b => granting c b (4 * s + passed b 0) := by
  simp only [passed_start, Nat.add_zero]
  exact .rfl
omit [FloatOps F] in
/-- those at its last place are the grants before the next sweep. -/
theorem granting_end (c : Dev nD) (s : ℕ) : (bigSep Finset.univ fun b => granting c b (4 * s + passed b 8) : sProp 𝕄)
    ⊢ bigSep Finset.univ fun b => granting c b (4 * (s + 1)) := by
  simp only [passed_end]
  exact .rfl
omit [FloatOps F] in
/-- Of the grants under way, those made. -/
theorem granting_granted (c : Dev nD) (b : Bool) (n : ℕ) : (granting c b n : sProp 𝕄) ⊢ granted c b n := by
  unfold granting
  iintro ⟨Hg, -⟩
  iexact Hg
omit [FloatOps F] in
/-- After the middle stages all grants are made. -/
theorem granted_of_granting (c : Dev nD) : (bigSep Finset.univ fun b => granting c b (4 * 6) : sProp 𝕄)
    ⊢ bigSep Finset.univ fun b => granted c b 24 :=
  bigSep_mono fun b _ => granting_granted c b 24

/-- The sweep of middle stages `s`. -/
theorem sweepM_rule (c : Dev nD) (s : ℕ) (hs : s < 6) (Q : PUnit → sProp 𝕄) :
    iprop(middle x w κ κs c s ∗ (bigSep Finset.univ fun p : Bool × Fin 4 => stageNeeds c p.1 p.2 s)
        ∗ ((middle x w κ κs c (s + 1) ∗ emp) -∗ Q ⟨⟩))
      ⊢ WP c (sweep fun b k => stageM b k (stageNo s) (par s) (par (s + 1)) c) Q := by
  unfold middle
  iintro ⟨⟨#HR, Hst, HO, Hg, Hb⟩, Hn, Hk⟩
  iapply (sweep_rule c (fun b k => stageM b k (stageNo s) (par s) (par (s + 1)) c) (inMiddle x w κ κs c s)
    (fun p => iprop(between c p.1 p.2 s ∗ stageNeeds c p.1 p.2 s)) (fun p => between c p.1 p.2 (s + 1))
    (stageM_place x w κ κs c s hs) Q)
  isplitl [Hst HO Hg]
  · unfold inMiddle
    isplitr; · iexact HR
    isplitl [Hst]; · iexact Hst
    isplitl [HO]; · iexact HO
    iapply (granting_start (F := F) c s)
    iexact Hg
  isplitl [Hb Hn]
  · iapply (Entails.of_eq (bigSep_sep' Finset.univ (fun p : Bool × Fin 4 => between (F := F) c p.1 p.2 s)
      (fun p => stageNeeds c p.1 p.2 s)).symm)
    isplitl [Hb] <;> iassumption
  iintro ⟨Hm, Hb⟩
  iapply Hk
  unfold inMiddle
  icases Hm with ⟨-, Hst, HO, Hg⟩
  isplitl
  · isplitr; · iexact HR
    isplitl [Hst]; · iexact Hst
    isplitl [HO]; · iexact HO
    isplitl [Hg]
    · iapply (granting_end (F := F) c s)
      iexact Hg
    iexact Hb
  · iempintro

/-- The six sweeps of middle stages. -/
theorem sweepsM_rule (c : Dev nD) (Q : PUnit → sProp 𝕄) :
    iprop(middle x w κ κs c 0
        ∗ (bigSep (Finset.range 6) fun s => bigSep Finset.univ fun p : Bool × Fin 4 => stageNeeds c p.1 p.2 s)
        ∗ (middle x w κ κs c 6 -∗ Q ⟨⟩))
      ⊢ WP c (runOver (fun s => sweep fun b k => stageM b k (stageNo s) (par s) (par (s + 1)) c) [0, 1, 2, 3, 4, 5]) Q := by
  rw [bigSep_eq_bigSepL_of_eq [0, 1, 2, 3, 4, 5] (by decide) (by decide)]
  iintro ⟨Hm, Hn, Hk⟩
  iapply (runOver_rule c (fun s => sweep fun b k => stageM b k (stageNo s) (par s) (par (s + 1)) c) id (middle x w κ κs c)
    (fun s => bigSep Finset.univ fun p : Bool × Fin 4 => stageNeeds c p.1 p.2 s) (fun _ => iprop(emp)) [0, 1, 2, 3, 4, 5] 0
    (by decide) (fun s hs Q => sweepM_rule x w κ κs c s (by revert s; decide) Q) Q)
  isplitl [Hm]; · iexact Hm
  isplitl [Hn]; · iexact Hn
  iintro ⟨Hm, -⟩
  iapply Hk
  iexact Hm

/-- The sweep of last stages. -/
theorem sweepL_rule (c : Dev nD) (Q : PUnit → sProp 𝕄) :
    iprop(recs x w κ κs ∗ staged x w c ∗ due c 106 ∗ (bigSep Finset.univ fun p : Bool × Fin 4 => between c p.1 p.2 6)
        ∗ (bigSep Finset.univ fun p : Bool × Fin 4 => lastNeeds c p.1 p.2)
        ∗ ((staged x w c ∗ due c 106 ∗ bigSep Finset.univ fun p : Bool × Fin 4 => copying c p.1 p.2) -∗ Q ⟨⟩))
      ⊢ WP c (sweep fun b k => stageL b k c) Q := by
  iintro ⟨#HR, Hst, HO, Hb, Hn, Hk⟩
  iapply (sweep_rule c (fun b k => stageL b k c) (fun _ => iprop(recs x w κ κs ∗ staged x w c ∗ due c 106))
    (fun p => iprop(between c p.1 p.2 6 ∗ lastNeeds c p.1 p.2)) (fun p => copying c p.1 p.2) (fun b k Q => by
      iintro ⟨⟨#HR, Hst, HO⟩, ⟨Hb, Hn⟩, Hk⟩
      iapply (stageL_rule x w κ κs c b k Q)
      isplitr; · iexact HR
      isplitl [Hst]; · iexact Hst
      isplitl [HO]; · iexact HO
      isplitl [Hb]; · iexact Hb
      isplitl [Hn]; · iexact Hn
      iintro ⟨Hst, HO, Hb⟩
      iapply Hk
      isplitr [Hb]
      · isplitr; · iexact HR
        isplitl [Hst]; · iexact Hst
        iexact HO
      · iexact Hb) Q)
  isplitl [Hst HO]
  · isplitr; · iexact HR
    isplitl [Hst]; · iexact Hst
    iexact HO
  isplitl [Hb Hn]
  · iapply (Entails.of_eq (bigSep_sep' Finset.univ (fun p : Bool × Fin 4 => between (F := F) c p.1 p.2 6)
      (fun p => lastNeeds c p.1 p.2)).symm)
    isplitl [Hb] <;> iassumption
  iintro ⟨⟨-, Hst, HO⟩, Hb⟩
  iapply Hk
  isplitl [Hst]; · iexact Hst
  isplitl [HO]; · iexact HO
  iexact Hb

/-- The sweep of waits for the copies. -/
theorem sweepO_rule (c : Dev nD) (Q : PUnit → sProp 𝕄) :
    iprop(recs x w κ κs ∗ due c 106 ∗ (bigSep Finset.univ fun p : Bool × Fin 4 => copying c p.1 p.2)
        ∗ ((due c 106 ∗ bigSep Finset.univ fun p : Bool × Fin 4 => finished x w c p.1 p.2) -∗ Q ⟨⟩))
      ⊢ WP c (sweep fun b k => stageO b k) Q := by
  iintro ⟨#HR, HO, Hb, Hk⟩
  iapply (sweep_rule c (fun b k => stageO b k) (fun _ => iprop(recs x w κ κs ∗ due c 106))
    (fun p => copying c p.1 p.2) (fun p => finished x w c p.1 p.2) (fun b k Q => by
      iintro ⟨⟨#HR, HO⟩, Hb, Hk⟩
      iapply (stageO_rule x w κ κs c b k Q)
      isplitr; · iexact HR
      isplitl [HO]; · iexact HO
      isplitl [Hb]; · iexact Hb
      iintro ⟨HO, Hb⟩
      iapply Hk
      isplitr [Hb]
      · isplitr; · iexact HR
        iexact HO
      · iexact Hb) Q)
  isplitl [HO]
  · isplitr; · iexact HR
    iexact HO
  isplitl [Hb]; · iexact Hb
  iintro ⟨⟨-, HO⟩, Hb⟩
  iapply Hk
  isplitl [HO]; · iexact HO
  iexact Hb

/-! ## The body -/

/-- What a device holds of its protocol when the body starts, the slots aside. -/
def opening (c : Dev nD) : sProp 𝕄 :=
  iprop((bigSep Finset.univ fun t => barTok c t) ∗ cred (tallyAt (cell c .bar) 0 2) ∗ atR c .bar 0
    ∗ (bigSep Finset.univ fun b => atR c (.credit b) 0)
    ∗ (bigSep Finset.univ fun p : Bool × Fin 4 => sendToks c p.1 p.2 0)
    ∗ (bigSep Finset.univ fun p : Bool × Fin 4 => iprop(atR c (.send p.1 (par 0) p.2) 0 ∗ atR c (.send p.1 (par 1) p.2) 0
        ∗ atR c (.recv p.1 (par 1) p.2) 0 ∗ atR c (.recv p.1 (par 0) p.2) 0))
    ∗ (bigSep (Finset.range 6) fun s => bigSep Finset.univ fun p : Bool × Fin 4 => stageNeeds c p.1 p.2 s)
    ∗ bigSep Finset.univ fun p : Bool × Fin 4 => lastNeeds c p.1 p.2)

/-- The slots of a device. -/
def slots (c : Dev nD) : sProp 𝕄 :=
  iprop((bigSep Finset.univ fun p : Bool × Fin 4 => pieceAny c p.1 (par 0) p.2) ∗ bigSep Finset.univ fun t => lent c t)

/-- What a device holds when the body ends. -/
def closing (c : Dev nD) : sProp 𝕄 :=
  iprop(atR c .bar 1 ∗ (bigSep Finset.univ fun b => granted c b 24)
    ∗ bigSep Finset.univ fun p : Bool × Fin 4 => finished x w c p.1 p.2)

omit [FloatOps F] in
/-- No grant has been made or waited for yet. -/
theorem granting_zero (c : Dev nD) (b : Bool) : (atR c (.credit b) 0 : sProp 𝕄) ⊢ granting c b 0 := by
  unfold atR granting granted told
  iintro ⟨Ha, -⟩
  isplitl
  · iexists ∅
    isplitr; · ipureintro; exact ⟨Finset.empty_subset _, Nat.zero_le _⟩
    isplitl [Ha]; · iexact Ha
    rw [bigSep_empty]; iempintro
  · rw [Finset.range_zero, bigSep_empty]; iempintro

omit [FloatOps F] in
/-- The slots lent and the rest make what the pieces start with. -/
theorem before_intro (c : Dev nD) :
    iprop((bigSep Finset.univ fun p : Bool × Fin 4 => pieceAny c p.1 (par 0) p.2) ∗ (bigSep Finset.univ fun b => lent (sendDev b c) b)
      ∗ (bigSep Finset.univ fun p : Bool × Fin 4 => sendToks c p.1 p.2 0)
      ∗ (bigSep Finset.univ fun p : Bool × Fin 4 => iprop(atR c (.send p.1 (par 0) p.2) 0 ∗ atR c (.send p.1 (par 1) p.2) 0
        ∗ atR c (.recv p.1 (par 1) p.2) 0 ∗ atR c (.recv p.1 (par 0) p.2) 0)))
      ⊢ (bigSep Finset.univ fun p : Bool × Fin 4 => before c p.1 p.2 : sProp 𝕄) := by
  unfold lent before
  rw [bigSep_sep' Finset.univ (fun p : Bool × Fin 4 => pieceAny (F := F) c p.1 (par 0) p.2),
    bigSep_sep' Finset.univ (fun p : Bool × Fin 4 => pieceAny (F := F) (sendDev p.1 c) p.1 (par 1) p.2),
    bigSep_sep' Finset.univ (fun p : Bool × Fin 4 => sendToks (F := F) c p.1 p.2 0),
    BI.bigSep_univ_prod (fun p : Bool × Fin 4 => pieceAny (F := F) (sendDev p.1 c) p.1 (par 1) p.2)]

/-- The body as its barrier, its sweeps and its last waits. -/
theorem ringBody_eq : (ringBody : Body F PUnit) = (do
    let d ← Prog.lift .deviceId
    barrier d
    sweep fun b k => stageI b k d
    runOver (fun s => sweep fun b k => stageM b k (stageNo s) (par s) (par (s + 1)) d) [0, 1, 2, 3, 4, 5]
    sweep fun b k => stageL b k d
    sweep fun b k => stageO b k) := by
  unfold ringBody
  simp only [runOver, bind_assoc, pure_bind]

/-- The body on device `c`. -/
theorem ringBody_rule (c : Dev nD) (Q : PUnit → sProp 𝕄) :
    iprop(recs x w κ κs ∗ staged x w c ∗ due c 0 ∗ opening c ∗ slots c
        ∗ ((staged x w c ∗ due c 106 ∗ closing x w c) -∗ Q ⟨⟩))
      ⊢ WP c ringBody Q := by
  rw [ringBody_eq]
  simp only [WP, Prog.lift, Prog.bind_op, Prog.bind_ret, wp_deviceId]
  simp only [wp_bind]
  unfold opening slots
  iintro ⟨#HR, Hst, HO, ⟨Htk, Hcb, Hab, Hac, Hts, Ha, Hn, Hl⟩, ⟨Hs0, Hs1⟩, Hk⟩
  iapply (barrier_rule x w κ κs c _)
  isplitr; · iexact HR
  isplitl [HO]; · iexact HO
  isplitl [Htk Hs1]
  · iapply (Entails.of_eq (bigSep_sep' Finset.univ (fun t => lent (F := F) c t) (fun t => barTok c t)).symm)
    isplitl [Hs1] <;> iassumption
  isplitl [Hcb]; · iexact Hcb
  isplitl [Hab]; · iexact Hab
  iintro ⟨HO, Hab, Hlent⟩
  iapply (sweepI_rule x w κ κs c _)
  isplitr; · iexact HR
  isplitl [Hst]; · iexact Hst
  isplitl [HO]; · iexact HO
  isplitl [Hs0 Hlent Hts Ha]
  · iapply (before_intro (F := F) c)
    isplitl [Hs0]; · iexact Hs0
    isplitl [Hlent]; · iexact Hlent
    isplitl [Hts] <;> iassumption
  iintro ⟨Hst, HO, Hb⟩
  iapply (sweepsM_rule x w κ κs c _)
  isplitl [Hst HO Hb Hac]
  · unfold middle
    isplitr; · iexact HR
    isplitl [Hst]; · iexact Hst
    isplitl [HO]; · iexact HO
    isplitl [Hac]
    · iapply (show (bigSep Finset.univ fun b => atR c (.credit b) 0 : sProp 𝕄) ⊢ bigSep Finset.univ fun b => granting c b (4 * 0) from
        bigSep_mono fun b _ => granting_zero c b)
      iexact Hac
    iexact Hb
  isplitl [Hn]; · iexact Hn
  unfold middle
  iintro ⟨-, Hst, HO, Hg, Hb⟩
  iapply (sweepL_rule x w κ κs c _)
  isplitr; · iexact HR
  isplitl [Hst]; · iexact Hst
  isplitl [HO]; · iexact HO
  isplitl [Hb]; · iexact Hb
  isplitl [Hl]; · iexact Hl
  iintro ⟨Hst, HO, Hb⟩
  iapply (sweepO_rule x w κ κs c Q)
  isplitr; · iexact HR
  isplitl [HO]; · iexact HO
  isplitl [Hb]; · iexact Hb
  iintro ⟨HO, Hb⟩
  iapply Hk
  isplitl [Hst]; · iexact Hst
  isplitl [HO]; · iexact HO
  unfold closing
  isplitl [Hab]; · iexact Hab
  isplitl [Hg]
  · iapply (granted_of_granting (F := F) c)
    iexact Hg
  iexact Hb

end Rules

end Cert.KernelIdeal.Ring

end
-- ==== Proof.KernelIdeal.Slots.lean ====
/-
  Buffers cut into pieces. A scratch buffer is its eight pieces, two slots of four column pieces each; the result is
  its eight pieces, one per direction and column piece. Each buffer is split when the kernel starts and joined when
  it ends.
-/
module

public import proofs.«01_k».proof.Proof.KernelIdeal.BodyRule

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## The rectangles -/

/-- Two different pieces of a scratch buffer share no element. -/
theorem rects_disjoint (q q' : Fin 2 × Fin 4) (h : q ≠ q') : Disjoint (pieceRect q.1 q.2).set (pieceRect q'.1 q'.2).set := by
  rw [Finset.disjoint_left]
  intro i hi hi'
  have a0 : q.1.val ≤ (i 0).val ∧ (i 0).val < q.1.val + 1 := (Rect.mem_set_unit.mp hi) 0
  have b0 : q'.1.val ≤ (i 0).val ∧ (i 0).val < q'.1.val + 1 := (Rect.mem_set_unit.mp hi') 0
  have a2 : 1024 * q.2.val ≤ (i 2).val ∧ (i 2).val < 1024 * q.2.val + 1024 := (Rect.mem_set_unit.mp hi) 2
  have b2 : 1024 * q'.2.val ≤ (i 2).val ∧ (i 2).val < 1024 * q'.2.val + 1024 := (Rect.mem_set_unit.mp hi') 2
  exact h (Prod.ext (Fin.ext (by omega)) (Fin.ext (by omega)))

/-- Every element of a scratch buffer lies in a piece. -/
theorem rects_cover : (Finset.univ : Finset (Fin 2 × Fin 4)).biUnion (fun q => (pieceRect q.1 q.2).set) = Finset.univ := by
  ext i
  simp only [Finset.mem_biUnion, Finset.mem_univ, true_and, iff_true]
  have h0 : (i 0).val < 2 := (i 0).isLt
  have h1 : (i 1).val < 512 := (i 1).isLt
  have h2 : (i 2).val < 4096 := (i 2).isLt
  refine ⟨(⟨(i 0).val, h0⟩, ⟨(i 2).val / 1024, by omega⟩), Rect.mem_set_unit.mpr fun a => ?_⟩
  fin_cases a
  · show (i 0).val ≤ (i 0).val ∧ (i 0).val < (i 0).val + 1; omega
  · show 0 ≤ (i 1).val ∧ (i 1).val < 0 + 512; omega
  · show 1024 * ((i 2).val / 1024) ≤ (i 2).val ∧ (i 2).val < 1024 * ((i 2).val / 1024) + 1024; omega

/-- Two different pieces of the result share no element. -/
theorem outRects_disjoint (q q' : Bool × Fin 4) (h : q ≠ q') : Disjoint (colsRect q.1 q.2).set (colsRect q'.1 q'.2).set := by
  rw [Finset.disjoint_left]
  intro i hi hi'
  obtain ⟨b, k⟩ := q
  obtain ⟨b', k'⟩ := q'
  have a1 : 4096 * b.toNat + 1024 * k.val ≤ (i 1).val ∧ (i 1).val < 4096 * b.toNat + 1024 * k.val + 1024 := (Rect.mem_set_unit.mp hi) 1
  have b1 : 4096 * b'.toNat + 1024 * k'.val ≤ (i 1).val ∧ (i 1).val < 4096 * b'.toNat + 1024 * k'.val + 1024 :=
    (Rect.mem_set_unit.mp hi') 1
  have hk := k.isLt
  have hk' := k'.isLt
  have hb : b.toNat = b'.toNat := by omega
  have hbb : b = b' := by revert hb; cases b <;> cases b' <;> simp
  subst hbb
  exact h (Prod.ext rfl (Fin.ext (by show k.val = k'.val; omega)))

/-- Every element of the result lies in a piece. -/
theorem outRects_cover : (Finset.univ : Finset (Bool × Fin 4)).biUnion (fun q => (colsRect q.1 q.2).set) = Finset.univ := by
  ext i
  simp only [Finset.mem_biUnion, Finset.mem_univ, true_and, iff_true]
  have h0 : (i 0).val < 512 := (i 0).isLt
  have h1 : (i 1).val < 8192 := (i 1).isLt
  have key : ∀ (b : Bool) (k : Fin 4), 4096 * b.toNat + 1024 * k.val ≤ (i 1).val →
      (i 1).val < 4096 * b.toNat + 1024 * k.val + 1024 → i ∈ (colsRect b k).set := fun b k hl hr =>
    Rect.mem_set_unit.mpr fun a => by
      fin_cases a
      · show 0 ≤ (i 0).val ∧ (i 0).val < 0 + 512; omega
      · exact ⟨hl, hr⟩
  by_cases hb : (i 1).val < 4096
  · refine ⟨(false, ⟨(i 1).val / 1024, by omega⟩), key _ _ ?_ ?_⟩
    · show 4096 * 0 + 1024 * ((i 1).val / 1024) ≤ _; omega
    · show _ < 4096 * 0 + 1024 * ((i 1).val / 1024) + 1024; omega
  · refine ⟨(true, ⟨((i 1).val - 4096) / 1024, by omega⟩), key _ _ ?_ ?_⟩
    · show 4096 * 1 + 1024 * (((i 1).val - 4096) / 1024) ≤ _; omega
    · show _ < 4096 * 1 + 1024 * (((i 1).val - 4096) / 1024) + 1024; omega

/-! ## The buffers -/

/-- A piece's elements are those of its rectangle. -/
theorem piece_map (b : Bool) (p : Fin 2) (k : Fin 4) : (piece b p k).view.set = (pieceRect p k).set.map (scratch b).view.emb := by
  rw [piece_set]; exact View.set_slice _ _

/-- A scratch buffer's view is the whole buffer. -/
theorem scratch_set (b : Bool) : (scratch b).view.set = Finset.univ := by
  cases b
  · exact View.set_whole _
  · exact View.set_whole _

/-- A piece's elements, as elements of its buffer. -/
abbrev pieceSet (b : Bool) (q : Fin 2 × Fin 4) : Finset (scratch b).view.ty.Idx := (piece b q.1 q.2).view.set

/-- The pieces of a scratch buffer do not meet -/
theorem pieces_disjoint (b : Bool) (q q' : Fin 2 × Fin 4) (h : q ≠ q') :
    Disjoint (piece b q.1 q.2).view.set (piece b q'.1 q'.2).view.set := by
  rw [piece_map, piece_map, Finset.disjoint_map]
  exact rects_disjoint q q' h

/-- and make it up. -/
theorem pieces_cover (b : Bool) : (Finset.univ : Finset (Fin 2 × Fin 4)).biUnion
    (pieceSet b) = Finset.univ := by
  have e : pieceSet b = fun q => (pieceRect q.1 q.2).set.map (scratch b).view.emb := funext fun q => piece_map b q.1 q.2
  rw [e]
  rw [← scratch_set b, ← View.setOn_univ, ← rects_cover]
  unfold View.setOn
  ext i
  simp only [Finset.mem_biUnion, Finset.mem_map, Finset.mem_univ, true_and]
  exact ⟨fun ⟨q, y, hy, h⟩ => ⟨y, ⟨q, hy⟩, h⟩, fun ⟨y, ⟨q, hy⟩, h⟩ => ⟨q, y, hy, h⟩⟩

/-- A piece of the result has the elements of its columns. -/
theorem outPiece_set (b : Bool) (k : Fin 4) : (outPiece b k).view.set = (colsRect b k).set := View.set_slice_whole _ _

/-- A piece's elements, as elements of the result. -/
abbrev outSet (q : Bool × Fin 4) : Finset (Memref.whole main_v1).view.ty.Idx := (outPiece q.1 q.2).view.set

/-- The pieces of the result do not meet -/
theorem outPieces_disjoint (q q' : Bool × Fin 4) (h : q ≠ q') : Disjoint (outPiece q.1 q.2).view.set (outPiece q'.1 q'.2).view.set := by
  rw [outPiece_set, outPiece_set]
  exact outRects_disjoint q q' h

/-- and make it up. -/
theorem outPieces_cover : (Finset.univ : Finset (Bool × Fin 4)).biUnion
    outSet = Finset.univ := by
  have e : outSet = fun q => (colsRect q.1 q.2).set := funext fun q => outPiece_set q.1 q.2
  rw [e]
  exact outRects_cover

omit [FloatOps F] in
/-- Elements held at some contents are a slot. -/
theorem any_intro {ℓ : Loc nD τ sig} {S : Finset (Idx ℓ)} (f : Buf (Elt F) ℓ) : (ℓ ↦[S]{fullShare} f : sProp 𝕄) ⊢ Release.slot ℓ S := by
  unfold Release.slot
  iintro H; iexists f; iexact H

/-- A scratch buffer, at any contents. -/
abbrev buffer (c : Dev nD) (b : Bool) : sProp 𝕄 :=
  iprop(∃ f, ((scratch b).view.loc (c : Thread nD τ)) ↦{fullShare} f)

omit [FloatOps F] in
/-- A scratch buffer is its pieces, -/
theorem buffer_split (c : Dev nD) (b : Bool) :
    (buffer (F := F) c b) ⊢ bigSep Finset.univ fun q : Fin 2 × Fin 4 => pieceAny c b q.1 q.2 := by
  iintro ⟨%f, H⟩
  iapply (show (((scratch b).view.loc (c : Thread nD τ)) ↦{fullShare} f : sProp 𝕄)
      ⊢ bigSep Finset.univ fun q : Fin 2 × Fin 4 => pieceAny c b q.1 q.2 from by
    rw [Ring.pointsTo_blocks (ℓ := (scratch b).view.loc (c : Thread nD τ)) (pieceSet b)
      (pieces_disjoint b) (pieces_cover b)]
    exact bigSep_mono fun q _ => any_intro f)
  iexact H

/-- and its pieces are the buffer. -/
theorem buffer_join (c : Dev nD) (b : Bool) :
    (bigSep Finset.univ fun q : Fin 2 × Fin 4 => pieceAny c b q.1 q.2) ⊢ (buffer (F := F) c b) :=
  Ring.pointsTo_blocks_join_exists (ℓ := (scratch b).view.loc (c : Thread nD τ)) (pieceSet b)
      (pieces_disjoint b) (pieces_cover b) (fun _ => Classical.arbitrary _)

omit [FloatOps F] in
/-- A family over the slots and column pieces is the family of slot 0 and the family of slot 1. -/
theorem bigSep_slots (Φ : Fin 2 × Fin 4 → sProp 𝕄) :
    bigSep Finset.univ Φ = iprop((bigSep Finset.univ fun k : Fin 4 => Φ (0, k)) ∗ bigSep Finset.univ fun k : Fin 4 => Φ (1, k)) := by
  rw [BI.bigSep_univ_prod, bigSep_univ_eq_bigSepL [(0 : Fin 2), (1 : Fin 2)] (by decide) (by decide)]; rfl

omit [FloatOps F] in
/-- The two scratch buffers are the slots the kernel starts with. -/
theorem slots_intro (c : Dev nD) : (bigSep Finset.univ fun b : Bool => buffer (F := F) c b) ⊢ slots c := by
  have h : (slots c : sProp 𝕄) = bigSep Finset.univ fun b : Bool => bigSep Finset.univ fun q : Fin 2 × Fin 4 => pieceAny c b q.1 q.2 := by
    unfold slots lent
    rw [BI.bigSep_univ_prod]
    refine (bigSep_sep' Finset.univ (fun b : Bool => bigSep Finset.univ fun k : Fin 4 => pieceAny (F := F) c b (par 0) k) _).symm.trans ?_
    exact bigSep_congr fun b _ => (bigSep_slots fun q : Fin 2 × Fin 4 => pieceAny (F := F) c b q.1 q.2).symm
  rw [h]
  exact bigSep_mono fun b _ => buffer_split c b

/-- The slots the kernel ends with are the two scratch buffers. -/
theorem slots_elim (c : Dev nD) :
    iprop((bigSep Finset.univ fun q : Bool × Fin 4 => pieceAny c q.1 (par 6) q.2)
      ∗ bigSep Finset.univ fun q : Bool × Fin 4 => pieceAny c q.1 (par 7) q.2)
      ⊢ (bigSep Finset.univ fun b : Bool => buffer (F := F) c b) := by
  have h : iprop((bigSep Finset.univ fun q : Bool × Fin 4 => pieceAny c q.1 (par 6) q.2)
      ∗ bigSep Finset.univ fun q : Bool × Fin 4 => (pieceAny c q.1 (par 7) q.2 : sProp 𝕄))
      = bigSep Finset.univ fun b : Bool => bigSep Finset.univ fun q : Fin 2 × Fin 4 => pieceAny c b q.1 q.2 := by
    rw [BI.bigSep_univ_prod, BI.bigSep_univ_prod]
    refine (bigSep_sep' Finset.univ (fun b : Bool => bigSep Finset.univ fun k : Fin 4 => pieceAny (F := F) c b (par 6) k) _).symm.trans ?_
    exact bigSep_congr fun b _ => (bigSep_slots fun q : Fin 2 × Fin 4 => pieceAny (F := F) c b q.1 q.2).symm
  rw [h]
  exact bigSep_mono fun b _ => buffer_join c b

/-! ## The result -/

omit [FloatOps F] in
/-- The result is its pieces. -/
theorem out_split (c : Dev nD) (f : Buf (Elt F) ((c : Thread nD τ).loc main_v1)) :
    (((c : Thread nD τ).loc main_v1) ↦{fullShare} f : sProp 𝕄) ⊢ bigSep Finset.univ fun q : Bool × Fin 4 => outAny c q.1 q.2 := by
  rw [Ring.pointsTo_blocks (ℓ := (c : Thread nD τ).loc main_v1) outSet
    outPieces_disjoint outPieces_cover]
  exact bigSep_mono fun q _ => any_intro f

/-- Its finished pieces are the result, each piece read off it as computed. -/
theorem out_join (c : Dev nD) (v : Bool × Fin 4 → Vec F S512x1024 .f32) :
    (bigSep Finset.univ fun q : Bool × Fin 4 => outIs c q.1 q.2 (v q))
      ⊢ (iprop(∃ g : Buf (Elt F) ((c : Thread nD τ).loc main_v1), ⌜∀ q : Bool × Fin 4, (outPiece q.1 q.2).view.read (Elt F) g = v q⌝
          ∗ (((c : Thread nD τ).loc main_v1) ↦{fullShare} g)) : sProp 𝕄) := by
  have : Nonempty (Buf (Elt F) ((c : Thread nD τ).loc main_v1)) := ⟨fun _ => Classical.arbitrary _⟩
  have h0 : ∀ q ∈ (Finset.univ : Finset (Bool × Fin 4)), (outIs c q.1 q.2 (v q) : sProp 𝕄)
      ⊢ iprop(∃ f : Buf (Elt F) ((c : Thread nD τ).loc main_v1), ⌜(outPiece q.1 q.2).view.read (Elt F) f = v q⌝
          ∗ (((c : Thread nD τ).loc main_v1) ↦[(outPiece q.1 q.2).view.set]{fullShare} f)) := fun q _ => by
    unfold outIs
    iintro ⟨%f, H, %hf⟩
    iexists f
    isplitr; · ipureintro; exact hf
    iexact H
  refine (bigSep_mono h0).trans ((BI.bigSep_exists_pi Finset.univ _).trans ?_)
  iintro ⟨%fs, H⟩
  ihave H := (BI.bigSep_pure_sep Finset.univ (fun q : Bool × Fin 4 => (outPiece q.1 q.2).view.read (Elt F) (fs q) = v q)
    (fun q => (((c : Thread nD τ).loc main_v1) ↦[(outPiece q.1 q.2).view.set]{fullShare} fs q : sProp 𝕄))) $$ H
  icases H with ⟨%hfs, H⟩
  ihave H := (pointsTo_biUnion_join Finset.univ outSet fs (fun _ => Classical.arbitrary _)
    (fun q _ q' _ h => outPieces_disjoint q q' h)) $$ H
  icases H with ⟨%g, %hg, H⟩
  iexists g
  isplitr
  · ipureintro
    exact fun q => (View.read_congr fun i hi => hg q (Finset.mem_univ q) i hi).trans (hfs q (Finset.mem_univ q))
  iapply (Entails.of_eq (congrArg (fun S => (((c : Thread nD τ).loc main_v1) ↦[S]{fullShare} g : sProp 𝕄)) outPieces_cover))
  iexact H

end Cert.KernelIdeal.Ring

end
-- ==== Proof.KernelIdeal.Deal.lean ====
/-
  What the launch deals each device, and how it makes up what the body starts with: the tokens of the units the device
  pays, its cells at their first round, the rights over the slots, and the credit of what its neighbours owe it.
-/
module

public import proofs.«01_k».proof.Proof.KernelIdeal.Slots

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## Families over the stages -/

omit [FloatOps F] in
/-- A family over a sum of two types is the family over each. -/
theorem bigSep_sum {A B : Type} [Fintype A] [Fintype B] (Φ : A ⊕ B → sProp 𝕄) :
    bigSep Finset.univ Φ = iprop((bigSep Finset.univ fun a => Φ (.inl a)) ∗ bigSep Finset.univ fun b => Φ (.inr b)) :=
  BI.bigSep_univ_sum Φ

omit [FloatOps F] in
/-- A family over the two directions. -/
theorem bigSep_bool (Φ : Bool → sProp 𝕄) : bigSep Finset.univ Φ = iprop(Φ false ∗ Φ true) := by
  rw [bigSep_univ_eq_bigSepL [false, true] (by decide) (by decide)]
  rfl

omit [FloatOps F] in
/-- A family over six indices, by their values. -/
theorem bigSep_six (Φ : ℕ → sProp 𝕄) : (bigSep Finset.univ fun n : Fin 6 => Φ n.val) = bigSep (Finset.range 6) Φ := by
  rw [bigSep_univ_eq_bigSepL [(0 : Fin 6), 1, 2, 3, 4, 5] (by decide) (by decide),
    bigSep_eq_bigSepL_of_eq [0, 1, 2, 3, 4, 5] (by decide) (by decide)]
  rfl

omit [FloatOps F] in
/-- A family over seven indices: the first, and the six after it. -/
theorem bigSep_seven_first (Φ : ℕ → sProp 𝕄) :
    (bigSep Finset.univ fun n : Fin 7 => Φ n.val) = iprop(Φ 0 ∗ bigSep (Finset.range 6) fun s => Φ (s + 1)) := by
  rw [bigSep_univ_eq_bigSepL [(0 : Fin 7), 1, 2, 3, 4, 5, 6] (by decide) (by decide),
    bigSep_eq_bigSepL_of_eq [0, 1, 2, 3, 4, 5] (by decide) (by decide)]
  rfl

omit [FloatOps F] in
/-- A family over seven indices: the last, and the six before it. -/
theorem bigSep_seven_last (Φ : ℕ → sProp 𝕄) :
    (bigSep Finset.univ fun n : Fin 7 => Φ n.val) = iprop(Φ 6 ∗ bigSep (Finset.range 6) Φ) := by
  rw [bigSep_univ_eq_bigSepL [(6 : Fin 7), 0, 1, 2, 3, 4, 5] (by decide) (by decide),
    bigSep_eq_bigSepL_of_eq [0, 1, 2, 3, 4, 5] (by decide) (by decide)]
  rfl

omit [FloatOps F] in
/-- A family over the pieces and the middle stages, stage by stage. -/
theorem bigSep_stages (Φ : ℕ → Bool × Fin 4 → sProp 𝕄) :
    (bigSep Finset.univ fun p : Bool × Fin 4 => bigSep (Finset.range 6) fun s => Φ s p)
      = bigSep (Finset.range 6) fun s => bigSep Finset.univ fun p : Bool × Fin 4 => Φ s p := by
  rw [← bigSep_six fun s => bigSep Finset.univ fun p : Bool × Fin 4 => Φ s p, Pipeline.bigSep_univ_comm]
  exact bigSep_congr fun p _ => (bigSep_six fun s => Φ s p).symm

omit [FloatOps F] in
/-- A family over the pieces and the seven transfers: transfer 0, and the later ones stage by stage. -/
theorem bigSep_transfers_first (Φ : ℕ → Bool × Fin 4 → sProp 𝕄) :
    (bigSep Finset.univ fun p : Bool × Fin 4 => bigSep Finset.univ fun u : Fin 7 => Φ u.val p)
      = iprop((bigSep Finset.univ fun p : Bool × Fin 4 => Φ 0 p)
          ∗ bigSep (Finset.range 6) fun s => bigSep Finset.univ fun p : Bool × Fin 4 => Φ (s + 1) p) := by
  rw [← bigSep_stages, ← bigSep_sep']
  exact bigSep_congr fun p _ => bigSep_seven_first fun u => Φ u p

omit [FloatOps F] in
/-- A family over the pieces and the seven transfers: transfer 6, and the earlier ones stage by stage. -/
theorem bigSep_transfers_last (Φ : ℕ → Bool × Fin 4 → sProp 𝕄) :
    (bigSep Finset.univ fun p : Bool × Fin 4 => bigSep Finset.univ fun u : Fin 7 => Φ u.val p)
      = iprop((bigSep Finset.univ fun p : Bool × Fin 4 => Φ 6 p)
          ∗ bigSep (Finset.range 6) fun s => bigSep Finset.univ fun p : Bool × Fin 4 => Φ s p) := by
  rw [← bigSep_stages, ← bigSep_sep']
  exact bigSep_congr fun p _ => bigSep_seven_last fun u => Φ u p

omit [FloatOps F] in
/-- A family over the pieces and the six grants, stage by stage. -/
theorem bigSep_grants (Φ : ℕ → Bool × Fin 4 → sProp 𝕄) :
    (bigSep Finset.univ fun p : Bool × Fin 4 => bigSep Finset.univ fun u : Fin 6 => Φ u.val p)
      = bigSep (Finset.range 6) fun s => bigSep Finset.univ fun p : Bool × Fin 4 => Φ s p := by
  rw [← bigSep_stages]
  exact bigSep_congr fun p _ => bigSep_six fun u => Φ u p

omit [FloatOps F] in
/-- A family over the grants of both directions, stage by stage. -/
theorem bigSep_keys (Φ : Bool → ℕ → sProp 𝕄) :
    (bigSep Finset.univ fun x : Bool × Fin 24 => Φ x.1 x.2.val)
      = bigSep (Finset.range 6) fun s => bigSep Finset.univ fun p : Bool × Fin 4 => Φ p.1 (grantNo s p.2) := by
  rw [← bigSep_grants fun s p => Φ p.1 (grantNo s p.2), BI.bigSep_univ_prod, BI.bigSep_univ_prod]
  refine bigSep_congr fun b _ => ?_
  rw [Pipeline.bigSep_univ_comm, ← BI.bigSep_univ_prod (fun y : Fin 6 × Fin 4 => Φ b (grantNo y.1.val y.2)),
    BI.bigSep_univ_equiv (finProdFinEquiv : Fin 6 × Fin 4 ≃ Fin 24)]
  refine bigSep_congr fun y _ => congrArg (Φ b) ?_
  show y.2.val + 4 * y.1.val = 4 * y.1.val + y.2.val
  omega

omit [FloatOps F] in
/-- A family over slots and pieces is the family of slot 0 and the family of slot 1. -/
theorem bigSep_sides (Φ : Bool → Fin 2 → Fin 4 → sProp 𝕄) :
    (bigSep Finset.univ fun x : Bool × Fin 2 × Fin 4 => Φ x.1 x.2.1 x.2.2)
      = iprop((bigSep Finset.univ fun p : Bool × Fin 4 => Φ p.1 (par 0) p.2)
          ∗ bigSep Finset.univ fun p : Bool × Fin 4 => Φ p.1 (par 1) p.2) := by
  rw [← bigSep_sep', BI.bigSep_univ_prod, BI.bigSep_univ_prod]
  refine bigSep_congr fun b _ => ?_
  rw [bigSep_slots fun y : Fin 2 × Fin 4 => Φ b y.1 y.2]
  exact (bigSep_sep' Finset.univ (fun k : Fin 4 => Φ b (par 0) k) fun k => Φ b (par 1) k).symm

/-- The cells other than the barrier, which the kernel allocates. -/
abbrev Own : Type := Bool ⊕ (Bool × Fin 2 × Fin 4) ⊕ (Bool × Fin 2 × Fin 4) ⊕ (Bool × Fin 4)
/-- The cell an index names. -/
abbrev Own.cl (y : Own) : Cl := kindsEquiv (.inr y)

omit [FloatOps F] in
/-- A family over the cells: the barrier's, and those of the others. -/
theorem bigSep_cells (Φ : Cl → sProp 𝕄) :
    bigSep Finset.univ Φ = iprop(Φ .bar ∗ bigSep Finset.univ fun y : Own => Φ y.cl) := by
  rw [BI.bigSep_univ_equiv kindsEquiv, bigSep_sum, bigSep_univ_eq_bigSepL [()] (by decide) (by decide)]
  rfl

omit [FloatOps F] in
/-- A family over the cells, kind by kind. -/
theorem bigSep_kinds (Φ : Cl → sProp 𝕄) :
    bigSep Finset.univ Φ = iprop(Φ .bar ∗ (bigSep Finset.univ fun b : Bool => Φ (.credit b))
      ∗ ((bigSep Finset.univ fun p : Bool × Fin 4 => Φ (.send p.1 (par 0) p.2))
        ∗ bigSep Finset.univ fun p : Bool × Fin 4 => Φ (.send p.1 (par 1) p.2))
      ∗ ((bigSep Finset.univ fun p : Bool × Fin 4 => Φ (.recv p.1 (par 0) p.2))
        ∗ bigSep Finset.univ fun p : Bool × Fin 4 => Φ (.recv p.1 (par 1) p.2))
      ∗ bigSep Finset.univ fun p : Bool × Fin 4 => Φ (.out p.1 p.2)) := by
  rw [bigSep_cells, bigSep_sum, bigSep_sum, bigSep_sum,
    ← bigSep_sides fun b p k => Φ (.send b p k), ← bigSep_sides fun b p k => Φ (.recv b p k)]
  rfl

/-! ## The tokens -/

/-- The units a device pays: what it owes its neighbours, its own side of its transfers, and its copies to the result. -/
abbrev Tk : Type := Ob ⊕ ((Bool × Fin 4) × Fin 7) ⊕ (Bool × Fin 4)

/-- Whose cell a unit of device `d` is of, -/
def Tk.home : Tk → Dev nD → Dev nD
  | .inl o, d => creditDev o.to d
  | .inr _, d => d
/-- which cell, -/
def Tk.cl : Tk → Cl
  | .inl o => o.cl
  | .inr (.inl ((b, k), u)) => .send b (par u.val) k
  | .inr (.inr (b, k)) => .out b k
/-- which round of it -/
def Tk.rd : Tk → ℕ
  | .inl o => o.rd
  | .inr (.inl (_, u)) => u.val / 2
  | .inr (.inr _) => 0
/-- and which unit of the round. -/
def Tk.unit : Tk → ℕ
  | .inl o => o.unit
  | .inr _ => 0

/-- A unit's cell, round and number. -/
def Tk.code (t : Tk) : Cl × ℕ × ℕ := (t.cl, t.rd, t.unit)

/-- Units are told apart -/
instance : DecidableEq Tk := inferInstance
/-- and are finitely many. -/
instance : Fintype Tk := inferInstance

/-- A unit is known by its cell, its round and its number; -/
theorem code_injective : Function.Injective Tk.code := by
  have h : ∀ t t' : Tk, t.code = t'.code → t = t' := by decide +kernel
  exact fun t t' => h t t'

/-- the devices of one unit's cells differ; -/
theorem home_injective (t : Tk) : Function.Injective t.home := by
  rcases t with o | t
  · exact (ring o.to).injective
  · exact fun _ _ h => h

/-- Unit `t` of device `d`, as the ring's schedule names it. -/
abbrev tokOf (y : Dev nD × Tk) : GSem nD τ sig × ℕ × ℕ := (cell (y.2.home y.1) y.2.cl, y.2.rd, y.2.unit)

/-- so no two units of two devices are the same. -/
theorem tokOf_injective : Function.Injective tokOf := by
  rintro ⟨d, t⟩ ⟨d', t'⟩ h
  have h1 := cell_injective (a₁ := (t.home d, t.cl)) (a₂ := (t'.home d', t'.cl)) (congrArg Prod.fst h)
  have h2 : t = t' := code_injective (Prod.ext (congrArg Prod.snd h1) (congrArg (fun z : GSem nD τ sig × ℕ × ℕ => z.2) h))
  subst h2
  rw [home_injective t (congrArg Prod.fst h1)]

/-- The tokens dealt device `c`: of the units it pays. -/
def dealt (c : Dev nD) : sProp 𝕄 :=
  bigSep Finset.univ fun t : Tk => dutyTok ER (cell (t.home c) t.cl) t.rd t.unit

omit [FloatOps F] in
/-- They are those of its barrier signals, its transfers, its grants and its copies to the result. -/
theorem dealt_elim (c : Dev nD) :
    (dealt (F := F) c) ⊢ iprop((bigSep Finset.univ fun t : Bool => barTok c t)
      ∗ ((bigSep Finset.univ fun p : Bool × Fin 4 => sendToks c p.1 p.2 0)
        ∗ bigSep (Finset.range 6) fun s => bigSep Finset.univ fun p : Bool × Fin 4 => sendToks c p.1 p.2 (s + 1))
      ∗ (bigSep (Finset.range 6) fun s => bigSep Finset.univ fun p : Bool × Fin 4 =>
          dutyTok ER (cell (creditDev p.1 c) (.credit p.1)) 0 (grantNo s p.2))
      ∗ bigSep Finset.univ fun p : Bool × Fin 4 => dutyTok ER (cell c (.out p.1 p.2)) 0 0) := by
  rw [← bigSep_transfers_first fun u p => sendToks (F := F) c p.1 p.2 u,
    ← bigSep_grants fun s p => (dutyTok ER (cell (creditDev p.1 c) (.credit p.1)) 0 (grantNo s p.2) : sProp 𝕄)]
  unfold dealt sendToks
  simp only [bigSep_sum, bigSep_sep']
  rw [BI.bigSep_univ_prod (fun y : (Bool × Fin 4) × (Fin 7 ⊕ Fin 6) =>
      (dutyTok ER (cell ((Tk.home (.inl (.inr y))) c) (Tk.cl (.inl (.inr y)))) (Tk.rd (.inl (.inr y))) (Tk.unit (.inl (.inr y))) : sProp 𝕄)),
    BI.bigSep_univ_prod (fun y : (Bool × Fin 4) × Fin 7 =>
      (dutyTok ER (cell ((Tk.home (.inr (.inl y))) c) (Tk.cl (.inr (.inl y)))) (Tk.rd (.inr (.inl y))) (Tk.unit (.inr (.inl y))) : sProp 𝕄))]
  simp only [bigSep_sum, bigSep_sep']
  simp only [← credit_not]
  iintro ⟨⟨Hb, Hr, Hg⟩, Hs, Ho⟩
  isplitl [Hb]; · iexact Hb
  isplitl [Hs Hr]
  · isplitl [Hs]; · iexact Hs
    iexact Hr
  isplitl [Hg]; · iexact Hg
  iexact Ho

/-! ## The credit -/

omit [FloatOps F] in
/-- The credit of what is owed device `c`, unit by unit. -/
theorem credit_units (c : Dev nD) :
    (Pipeline.launchCred (fun d => O d 0) c : sProp 𝕄) ⊢ bigSep Finset.univ fun o : Ob => cred (tallyAt (cell c o.cl) o.ix (amt o.cl)) := by
  rw [show (fun d => O d 0) = fun d => ∑ o ∈ Finset.univ, tal o d from funext fun d => O_start d, Pipeline.launchCred_sum]
  exact bigSep_mono fun o _ => Pipeline.launchCred_tallyAt o.cl.loc (creditDev o.to) (sendDev o.to) (credit_send o.to) (send_credit o.to)
    o.ix (amt o.cl) c

omit [FloatOps F] in
/-- The credit of what is owed device `c`: two signals, its neighbours' transfers, and their grants. -/
theorem credit_elim (c : Dev nD) :
    (Pipeline.launchCred (fun d => O d 0) c : sProp 𝕄) ⊢ iprop(cred (tallyAt (cell c .bar) 0 2)
      ∗ ((bigSep Finset.univ fun p : Bool × Fin 4 => cred (tallyAt (cell c (.recv p.1 (par 7) p.2)) 3 (N p.1)))
        ∗ bigSep (Finset.range 6) fun s => bigSep Finset.univ fun p : Bool × Fin 4 =>
            cred (tallyAt (cell c (.recv p.1 (par (s + 1)) p.2)) (s / 2) (N p.1)))
      ∗ bigSep (Finset.range 6) fun s => bigSep Finset.univ fun p : Bool × Fin 4 =>
          cred (tallyAt (cell c (.credit p.1)) (grantNo s p.2) 1)) := by
  refine (credit_units c).trans ?_
  rw [← bigSep_grants fun s p => (cred (tallyAt (cell c (.credit p.1)) (grantNo s p.2) 1) : sProp 𝕄)]
  have h := bigSep_transfers_last fun u p => (cred (tallyAt (cell c (.recv p.1 (par (u + 1)) p.2)) (u / 2) (N p.1)) : sProp 𝕄)
  rw [bigSep_sum, BI.bigSep_univ_prod (fun y : (Bool × Fin 4) × (Fin 7 ⊕ Fin 6) =>
      (cred (tallyAt (cell c (Ob.cl (.inr y))) (Ob.ix (.inr y)) (amt (Ob.cl (.inr y)))) : sProp 𝕄)),
    bigSep_bool]
  simp only [bigSep_sum, bigSep_sep']
  iintro ⟨⟨H0, H1⟩, Hr, Hg⟩
  isplitl [H0 H1]
  · iapply (Entails.of_eq (congrArg (fun t => (cred t : sProp 𝕄)) (tallyAt_add (cell c .bar) 0 1 1)))
    iapply (cred_add (tallyAt (cell c .bar) 0 1) (tallyAt (cell c .bar) 0 1)).2
    isplitl [H0]
    · iexact H0
    · iexact H1
  isplitl [Hr]
  · iapply (Entails.of_eq h)
    iexact Hr
  iexact Hg

/-! ## What the body starts with -/

/-- What a device holds of the ghost state at launch: its cells at their first round, its tokens, that none of its slots
    was granted, and the rights to take the neighbours'. -/
def holds (c : Dev nD) : sProp 𝕄 :=
  iprop((bigSep Finset.univ fun y : Cl => atR c y 0) ∗ dealt c
    ∗ (bigSep Finset.univ fun x : Bool × Fin 24 => Release.readerAt ES (keyOf c x.1 x.2.val) 0)
    ∗ bigSep Finset.univ fun x : Bool × Fin 24 => Release.writeTok ES (keyOf (sendDev x.1 c) x.1 x.2.val) 1)

omit [FloatOps F] in
/-- With the credit and the result's pieces, it is what the body starts with. -/
theorem opening_intro (c : Dev nD) :
    iprop(holds c ∗ Pipeline.launchCred (fun d => O d 0) c ∗ bigSep Finset.univ fun q : Bool × Fin 4 => outAny c q.1 q.2)
      ⊢ (opening (F := F) c) := by
  unfold holds opening stageNeeds lastNeeds
  simp only [bigSep_sep']
  rw [bigSep_keys fun b j => (Release.readerAt ES (keyOf c b j) 0 : sProp 𝕄),
    bigSep_keys fun b j => (Release.writeTok ES (keyOf (sendDev b c) b j) 1 : sProp 𝕄), bigSep_kinds]
  iintro ⟨⟨⟨HaB, HaC, ⟨Hs0, Hs1⟩, ⟨Hr0, Hr1⟩, HaO⟩, Hd, Hrd, Hwr⟩, Hcr, Ho⟩
  ihave Hd := (dealt_elim c) $$ Hd
  icases Hd with ⟨Htb, ⟨Ht0, Hts⟩, Htg, Hto⟩
  ihave Hcr := (credit_elim c) $$ Hcr
  icases Hcr with ⟨Hcb, ⟨Hc6, Hcs⟩, Hcg⟩
  isplitl [Htb]; · iexact Htb
  isplitl [Hcb]; · iexact Hcb
  isplitl [HaB]; · iexact HaB
  isplitl [HaC]; · iexact HaC
  isplitl [Ht0]; · iexact Ht0
  isplitl [Hs0 Hs1 Hr0 Hr1]
  · isplitl [Hs0]; · iexact Hs0
    isplitl [Hs1]; · iexact Hs1
    isplitl [Hr1]; · iexact Hr1
    iexact Hr0
  isplitl [Hcs Hcg Htg Hts Hwr Hrd]
  · isplitl [Hcs]; · iexact Hcs
    isplitl [Hcg]; · iexact Hcg
    isplitl [Htg]; · iexact Htg
    isplitl [Hts]; · iexact Hts
    isplitl [Hwr]; · iexact Hwr
    iexact Hrd
  isplitl [Hc6]; · iexact Hc6
  isplitl [Hto]; · iexact Hto
  isplitl [HaO]; · iexact HaO
  iexact Ho

end Cert.KernelIdeal.Ring

end
-- ==== Proof.KernelIdeal.Body.lean ====
/-
  The run of the kernel on every device: the launch's ghost state, the cells' and slots' invariants, the body between
  its start and the closing of its cells, and what the memory holds when all devices have finished.
-/
module

public import proofs.«01_k».proof.Proof.KernelIdeal.BodyEq
public import proofs.«01_k».proof.Proof.KernelIdeal.Deal
public import proofs.«01_k».proof.Proof.Gen.KernelIdeal.Points
public import proofs.«01_k».proof.Proof.Gen.KernelIdeal.Launch

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-- The activations a device stages, -/
def xs (c : Dev nD) : Vec F S4096x512 .f32 := (win0_0.blk (0 : Fin 1)).view.read (Elt F) (m ((c : Thread nD τ).loc main_arg0))
/-- and the weights. -/
def ws (c : Dev nD) : Vec F S512x8192 .f32 := (win0_1.blk (0 : Fin 1)).view.read (Elt F) (m ((c : Thread nD τ).loc main_arg1))

/-! ## Closing the cells -/

section Close

variable (x : Dev nD → Vec F S4096x512 .f32) (w : Dev nD → Vec F S512x8192 .f32) (κ : Dev nD × Cl → ℕ) (κs : Key → ℕ)

/-- A cell none of whose later rounds has a unit closes, its counter at zero. -/
theorem close_one (c : Dev nD) (y : Cl) (r : ℕ) (h : ∀ r', r ≤ r' → duty y r' = ∅) :
    iprop(recs x w κ κs ∗ atR c y r) ⊢ |={Set.univ}=> (semVal (cell c y) 0 : sProp 𝕄) := by
  unfold atR
  iintro ⟨#HR, Hat, -⟩
  ihave #HI := (recs_cell x w κ κs c y) $$ HR
  iapply (Rounds.cell_close ER (Rd x w) (g := cell c y) (κ := κ (c, y)) (Set.mem_univ _) (fun h => h) (R := r)
    (fun r' hr' => by rw [duties_eq]; exact h r' hr'))
  isplitr; · iexact HI
  iexact Hat

/-- So do a family of cells. -/
theorem close_all {I : Type} [Fintype I] [DecidableEq I] (c : Dev nD) (f : I → Cl) (r : ℕ) (h : ∀ i r', r ≤ r' → duty (f i) r' = ∅) :
    iprop(recs x w κ κs ∗ bigSep Finset.univ fun i => atR c (f i) r)
      ⊢ |={Set.univ}=> (bigSep Finset.univ fun i => semVal (cell c (f i)) 0 : sProp 𝕄) :=
  (BI.bigSep_with_persistent (R := recs x w κ κs) fun i _ => close_one x w κ κs c (f i) r (h i)).trans (bigSep_fupd _ _)

/-- A credit cell all of whose grants were waited for closes. -/
theorem close_credit (c : Dev nD) (b : Bool) :
    iprop(recs x w κ κs ∗ granted c b 24) ⊢ |={Set.univ}=> (semVal (cell c (.credit b)) 0 : sProp 𝕄) := by
  unfold granted
  iintro ⟨#HR, ⟨%S, %hS, Hat, -⟩⟩
  ihave #HI := (recs_cell x w κ κs c (.credit b)) $$ HR
  have hS' : S = Finset.range 24 := Finset.eq_of_subset_of_card_le hS.1 (by rw [Finset.card_range]; exact hS.2)
  subst hS'
  imod (Rounds.fupd_skip ER (Rd x w) (g := cell c (.credit b)) (κ := κ (c, .credit b)) (R := 0) (m := 24) (T := Finset.range 24)
    (by rw [duties_eq]; exact Finset.Subset.refl _) (by rw [expect_eq]; cases b <;> rfl) (Set.mem_univ _)) $$ [Hat] with ⟨Hat, #Hr⟩
  · isplitr; · iexact HI
    iexact Hat
  iapply (close_one x w κ κs c (.credit b) 1 (fun r' hr' => if_neg (by omega)))
  isplitr; · iexact HR
  unfold atR
  isplitl [Hat]; · iexact Hat
  iexact Hr

/-- What a device ends with: its counters at zero, the finished pieces of its result, and its slots. -/
def ends (c : Dev nD) : sProp 𝕄 :=
  iprop((bigSep Finset.univ fun y : Cl => semVal (cell c y) 0)
    ∗ (bigSep Finset.univ fun q : Bool × Fin 4 => outIs c q.1 q.2 (result x w q.1 q.2 c))
    ∗ (bigSep Finset.univ fun q : Bool × Fin 4 => pieceAny c q.1 (par 6) q.2)
    ∗ bigSep Finset.univ fun q : Bool × Fin 4 => pieceAny c q.1 (par 7) q.2)

/-- At the end of the body every cell is closed, its counter back at zero, and the pieces and slots are all back. -/
theorem close_body (c : Dev nD) : iprop(recs x w κ κs ∗ closing x w c) ⊢ |={Set.univ}=> (ends x w c : sProp 𝕄) := by
  unfold closing finished ended ends
  simp only [bigSep_sep']
  rw [bigSep_kinds]
  iintro ⟨#HR, HB, HG, ⟨HS0, HS1, HV1, HV0, Hp7⟩, HO, Hout, Hp6⟩
  imod (close_one x w κ κs c .bar 1 (fun r' hr' => if_neg (by omega))) $$ [HB] with HB
  · isplitr; · iexact HR
    iexact HB
  imod ((BI.bigSep_with_persistent (R := recs x w κ κs) fun b _ => close_credit x w κ κs c b).trans (bigSep_fupd _ _)) $$ [HG] with HG
  · isplitr; · iexact HR
    iexact HG
  imod (close_all x w κ κs c (fun p : Bool × Fin 4 => Cl.send p.1 (par 6) p.2) 4
    (fun i r' hr' => if_neg (by show ¬ (2 * r' + 0 ≤ 6); omega))) $$ [HS0] with HS0
  · isplitr; · iexact HR
    iexact HS0
  imod (close_all x w κ κs c (fun p : Bool × Fin 4 => Cl.send p.1 (par 7) p.2) 3
    (fun i r' hr' => if_neg (by show ¬ (2 * r' + 1 ≤ 6); omega))) $$ [HS1] with HS1
  · isplitr; · iexact HR
    iexact HS1
  imod (close_all x w κ κs c (fun p : Bool × Fin 4 => Cl.recv p.1 (par 7) p.2) 4
    (fun i r' hr' => if_neg (by show ¬ (2 * r' + 0 ≤ 6); omega))) $$ [HV1] with HV1
  · isplitr; · iexact HR
    iexact HV1
  imod (close_all x w κ κs c (fun p : Bool × Fin 4 => Cl.recv p.1 (par 6) p.2) 3
    (fun i r' hr' => if_neg (by show ¬ (2 * r' + 1 ≤ 6); omega))) $$ [HV0] with HV0
  · isplitr; · iexact HR
    iexact HV0
  imod (close_all x w κ κs c (fun p : Bool × Fin 4 => Cl.out p.1 p.2) 1
    (fun i r' hr' => if_neg (by omega))) $$ [HO] with HO
  · isplitr; · iexact HR
    iexact HO
  imodintro
  isplitl [HB HG HS0 HS1 HV0 HV1 HO]
  · isplitl [HB]; · iexact HB
    isplitl [HG]; · iexact HG
    isplitl [HS0 HS1]
    · isplitl [HS0]; · iexact HS0
      iexact HS1
    isplitl [HV0 HV1]
    · isplitl [HV0]; · iexact HV0
      iexact HV1
    iexact HO
  isplitl [Hout]; · iexact Hout
  isplitl [Hp6]; · iexact Hp6
  iexact Hp7

end Close

/-! ## The proof data -/

/-- What a device starts with, the invariants at some names. -/
def start (c : Dev nD) : sProp 𝕄 := iprop(∃ κ κs, recs (xs m) (ws m) κ κs ∗ opening c)

/-- What a device holds between the pipeline's two points: at first its start and its slots, at last its end. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xs m c
    | ⟨1, _⟩ => ws m c
  Φ t := match t with
    | ⟨0, _⟩ => iprop(start m c ∗ slots c)
    | ⟨_ + 1, _⟩ => ends (xs m) (ws m) c
  q _ := fullShare
  owed t := match t with
    | ⟨0, _⟩ => O c 0
    | ⟨_ + 1, _⟩ => 0

omit [FloatOps F] in
/-- Owning a whole buffer at given contents is holding it full, with those contents. -/
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is given at the pipeline's one point. -/
def bodyPre (c : Dev nD) : sProp 𝕄 :=
  iprop((start m c ∗ slots c) ∗ (dats m ρ 0 c).owesAt 0 t0_0.castSucc
    ∗ (∃ d, stg c cc0_stg0_0 ((dats m ρ 0 c).before (0 : Fin 2) t0_0 d))
    ∗ (∃ d, stg c cc0_stg1_0 ((dats m ρ 0 c).before (1 : Fin 2) t0_0 d)))

/-- What it gives back. -/
def bodyPost (c : Dev nD) : sProp 𝕄 :=
  iprop(ends (xs m) (ws m) c ∗ (dats m ρ 0 c).owesAt 0 t0_0.succ ∗ stg c cc0_stg0_0 (xs m c) ∗ stg c cc0_stg1_0 (ws m c))

/-- The body, run with what a device is given, ends and gives back what it must. -/
theorem sound_body (c : Dev nD) : (bodyPre m ρ c : sProp 𝕄) ⊢ WP c ringBody fun _ => bodyPost m ρ c := by
  unfold bodyPre start Dat.owesAt Pipeline.owesWithin
  iintro ⟨⟨⟨%κ, %κs, #HR, Hop⟩, Hsl⟩, ⟨%W, %hW, HO⟩, ⟨%d0, %g0, %hg0, Hx⟩, ⟨%d1, %g1, %hg1, Hw⟩⟩
  have hx : g0 = xs m c := by rw [hg0]; unfold Dat.before; rw [if_pos (fetch0_0 t0_0)]; rfl
  have hw : g1 = ws m c := by rw [hg1]; unfold Dat.before; rw [if_pos (fetch0_1 t0_0)]; rfl
  subst hx
  subst hw
  iapply wp_fupd
  iapply (ringBody_rule (xs m) (ws m) κ κs c)
  isplitr; · iexact HR
  isplitl [Hx Hw]
  · unfold staged
    isplitl [Hx]; · iexact Hx
    iexact Hw
  isplitl [HO]
  · unfold due; iexists W; iexact HO
  isplitl [Hop]; · iexact Hop
  isplitl [Hsl]; · iexact Hsl
  iintro ⟨Hst, HO, Hcl⟩
  imod (close_body (xs m) (ws m) κ κs c) $$ [Hcl] with Hend
  · isplitr; · iexact HR
    iexact Hcl
  imodintro
  unfold bodyPost staged due Dat.owesAt Pipeline.owesWithin
  icases Hst with ⟨Hx, Hw⟩
  icases HO with ⟨%W', HO⟩
  isplitl [Hend]; · iexact Hend
  isplitl [HO]
  · iexists W'
    isplitr; · ipureintro; exact fun _ _ => Or.inl trivial
    iapply (Entails.of_eq (congrArg (fun T => (owes (c : Thread nD τ) T W' : sProp 𝕄)) (O_end c)))
    iexact HO
  isplitl [Hx]
  · iexists _; isplitr; · (ipureintro; rfl)
    iexact Hx
  iexists _; isplitr; · (ipureintro; rfl)
  iexact Hw

set_option maxRecDepth 100000 in
/-- The body at the pipeline's one point. -/
theorem body_obligation (c : Dev nD) : BodyObligation (dats (F := F) m ρ 0 c) (defs₀ (F := F)) 𝒱₀ 0 Set.univ := fun t => by
  rw [fin_N0 t, bigSep_W0, bigSep_W0]
  simp only [owns_whole_eq]
  show bodyPre m ρ c ⊢ wp frame (wpE (defs₀ (F := F)) 𝒱₀ c none) Set.univ (cc0_body (F := F) stg0 (Memref.isWhole_whole _) stg1
    (Memref.isWhole_whole _) (Memref.whole main_v1) (Memref.isWhole_whole _) (Memref.whole cc0_scratch0) (Memref.isWhole_whole _)
    (Memref.whole cc0_scratch1) (Memref.isWhole_whole _) cc0_scratch2 cc0_scratch3 cc0_scratch4 cc0_scratch5 cc0_scratch6 cc0_scratch7
    cc0_scratch8) (fun _ => bodyPost m ρ c)
  rw [body_eq]
  exact sound_body m ρ c

end Cert.KernelIdeal.Ring

end
-- ==== Proof.KernelIdeal.Launch.lean ====
/-
  The launch: the resources every device is dealt, the invariants of all cells and slots made in one step, and the run of
  @main, after which each device's result holds what its eight slices were left with.
-/
module

public import proofs.«01_k».proof.Proof.KernelIdeal.Body
public import Idealize.ShloMosaic.Lib.Quiescent
public import Idealize.ShloMosaic.Lib.Pipeline.CollectiveSegs

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-- The kernel's own scoped semaphores: those of every cell but the barrier's. -/
def osem (y : Own) : SemLoc sig := y.cl.loc

/-- They are scoped, distinct, and none is a staging semaphore. -/
theorem ownSemFacts : Pipeline.OwnSemFacts cfg0.spec osem where
  isScoped := by decide +kernel
  inj := loc_injective.comp fun _ _ h => Sum.inr_injective (kindsEquiv.injective h)
  disj := by
    show ∀ (k : Own) (w : Fin 2) (s : Fin (cfg0.spec w).nbuf), osem k ≠ .dma ((cfg0.spec w).sem s)
    decide +kernel

omit [FloatOps F] in
/-- The semaphores of a device, at zero: those of its cells. -/
theorem sems_eq (c : Dev nD) :
    (bigSep Finset.univ fun y : Cl => (semVal (cell c y) 0 : sProp 𝕄))
      = iprop(unscopedSems0 c ∗ Pipeline.ownSems0 (Ix := ℕ) (Name := ℕ) (U := UU) (Lvl := ℕ) (Val := Elt F) (τ := τ) osem c) := by
  rw [bigSep_cells]
  unfold unscopedSems0
  rw [bigSep_eq_bigSepL_of_eq [SemLoc.reg barSem] (by decide) (by decide)]
  rfl

/-! ## What is dealt -/

/-- Every cell of every device, -/
def cells : Finset (GSem nD τ sig) := Finset.univ.map ⟨fun p : Dev nD × Cl => cell p.1 p.2, cell_injective⟩
/-- and every unit's token. -/
def toks : Finset (GSem nD τ sig × ℕ × ℕ) := Finset.univ.map ⟨tokOf, tokOf_injective⟩

/-- The ghost state of the launch. -/
def u₀ : UU :=
  (initOf (Pipeline.cells cfgs cellOf_inj) (Pipeline.launchToks cfgs cellOf_inj),
    (initOf cells toks, Release.initSlots (Finset.univ : Finset Key) 1))

/-- The invariants of the slots, at their names. -/
def slotInvs (κs : Key → ℕ) : sProp 𝕄 := bigSep Finset.univ fun y : Key => Release.slotInv ES (κs y) y (keySlot y)

/-- The slots' invariants are facts that stay. -/
instance slotInvs_persistent (κs : Key → ℕ) : BI.Persistent (slotInvs (F := F) κs) := by unfold slotInvs; infer_instance

/-- What a device is dealt at launch. -/
def G (c : Dev nD) : sProp 𝕄 :=
  iprop((bigSep Finset.univ fun y : Cl => roundState ER (Rd (xs m) (ws m)) (cell c y) 0) ∗ (∃ κs, slotInvs κs) ∗ holds c)

/-- The invariants of all cells and slots. -/
def marks (κ : Dev nD × Cl → ℕ) (κs : Key → ℕ) : sProp 𝕄 :=
  iprop((bigSep Finset.univ fun p : Dev nD × Cl => cellInv ER (Rd (xs m) (ws m)) (κ p) (cell p.1 p.2))
    ∗ (bigSep Finset.univ fun p : Dev nD × Cl => reached ER (cell p.1 p.2) 0) ∗ slotInvs κs)

/-- So are the marks of the cells and of the slots. -/
instance marks_persistent (κ : Dev nD × Cl → ℕ) (κs : Key → ℕ) : BI.Persistent (marks m κ κs) := by unfold marks; infer_instance

/-- What it has once they are made. -/
def G' (c : Dev nD) : sProp 𝕄 := iprop(∃ κ κs, marks m κ κs ∗ holds c)

/-- The slots a device writes, one for each it reads. -/
def across : Key ≃ Key where
  toFun y := (sendDev y.2.1 y.1, y.2)
  invFun y := (creditDev y.2.1 y.1, y.2)
  left_inv y := Prod.ext (credit_send _ _) rfl
  right_inv y := Prod.ext (send_credit _ _) rfl

/-- A key is the key of its device, direction and number. -/
theorem keyOf_val (d : Dev nD) (x : Bool × Fin 24) : keyOf d x.1 x.2.val = (d, x) := by
  obtain ⟨b, j⟩ := x
  unfold keyOf
  exact Prod.ext rfl (Prod.ext rfl (Fin.ext (Nat.mod_eq_of_lt j.isLt)))

omit [FloatOps F] in
/-- The counts of the readers, by device; -/
theorem readers_deal :
    (bigSep Finset.univ fun y : Key => Release.readerAt ES y 0)
      ⊢ (bigSep Finset.univ fun c : Dev nD => bigSep Finset.univ fun x : Bool × Fin 24 => Release.readerAt ES (keyOf c x.1 x.2.val) 0 : sProp 𝕄) := by
  rw [BI.bigSep_univ_prod]
  exact bigSep_mono fun c _ => bigSep_mono fun x _ => Entails.of_eq (congrArg (fun y => Release.readerAt ES y 0) (keyOf_val c x).symm)

/-- The key of the neighbour a device sends to. -/
theorem across_eq (c : Dev nD) (x : Bool × Fin 24) : across (c, x) = keyOf (sendDev x.1 c) x.1 x.2.val :=
  Eq.trans rfl (keyOf_val (sendDev x.1 c) x).symm

/-- One write of every key. -/
theorem keys_once : (Finset.univ : Finset Key) ×ˢ Finset.range 1 = Finset.univ.map ⟨fun y => (y, 0), fun _ _ h => congrArg Prod.fst h⟩ := by
  refine Finset.ext fun y => ⟨fun hy => Finset.mem_map.mpr ⟨y.1, Finset.mem_univ _, Prod.ext rfl ?_⟩, fun hy => ?_⟩
  · exact (Nat.lt_one_iff.mp (Finset.mem_range.mp (Finset.mem_product.mp hy).2)).symm
  · obtain ⟨z, -, rfl⟩ := Finset.mem_map.mp hy
    exact Finset.mem_product.mpr ⟨Finset.mem_univ _, Finset.mem_range.mpr Nat.one_pos⟩

omit [FloatOps F] in
/-- One write token for every key. -/
theorem one_write : (bigSep ((Finset.univ : Finset Key) ×ˢ Finset.range 1) fun y => (Release.writeTok ES y.1 (y.2 + 1) : sProp 𝕄))
    = bigSep Finset.univ fun y : Key => Release.writeTok ES y 1 := by rw [keys_once, BI.bigSep_map]; rfl

omit [FloatOps F] in
/-- and the tokens of the writers. -/
theorem writers_deal :
    (bigSep ((Finset.univ : Finset Key) ×ˢ Finset.range 1) fun y => Release.writeTok ES y.1 (y.2 + 1))
      ⊢ (bigSep Finset.univ fun c : Dev nD => bigSep Finset.univ fun x : Bool × Fin 24 =>
          Release.writeTok ES (keyOf (sendDev x.1 c) x.1 x.2.val) 1 : sProp 𝕄) := by
  rw [one_write, BI.bigSep_univ_equiv across, BI.bigSep_univ_prod]
  exact Entails.of_eq (bigSep_congr fun c _ => bigSep_congr fun x _ => by rw [across_eq])

omit [FloatOps F] in
/-- The ghost state of the cells, dealt by device. -/
theorem cells_deal (Φ : GSem nD τ sig → sProp 𝕄) :
    bigSep cells Φ = bigSep Finset.univ fun c : Dev nD => bigSep Finset.univ fun y : Cl => Φ (cell c y) := by
  unfold cells; rw [BI.bigSep_map, BI.bigSep_univ_prod]; rfl

omit [FloatOps F] in
/-- The tokens of the units, by the device that pays them. -/
theorem toks_deal : bigSep toks (fun t => (dutyTok ER t.1 t.2.1 t.2.2 : sProp 𝕄)) = bigSep Finset.univ fun c : Dev nD => dealt c := by
  unfold toks; rw [BI.bigSep_map, BI.bigSep_univ_prod]; rfl

/-- The ring's ghost state, dealt: every cell's state and position and every device's tokens. -/
theorem fund_ring : BI.own (ER (initOf cells toks)) ⊢ (|==> iprop((bigSep Finset.univ fun c : Dev nD =>
      bigSep Finset.univ fun y : Cl => roundState ER (Rd (xs m) (ws m)) (cell c y) 0)
    ∗ (bigSep Finset.univ fun c : Dev nD => bigSep Finset.univ fun y : Cl => atR c y 0)
    ∗ bigSep Finset.univ fun c : Dev nD => dealt c) : sProp 𝕄) := by
  unfold atR
  simp only [bigSep_sep']
  iintro HX
  imod (Rounds.fund ER (Rd (xs m) (ws m)) cells toks) $$ HX with ⟨Hst, Hr, Hat, Htok⟩
  imodintro
  ihave Hst := (Entails.of_eq (cells_deal (F := F) fun g => roundState ER (Rd (xs m) (ws m)) g 0)) $$ Hst
  ihave Hat := (Entails.of_eq (cells_deal (F := F) fun g => atPos ER g 0 ∅ 0)) $$ Hat
  ihave Hr := (Entails.of_eq (cells_deal (F := F) fun g => reached ER g 0)) $$ Hr
  ihave Htok := (Entails.of_eq (toks_deal (F := F))) $$ Htok
  isplitl [Hst]; · iexact Hst
  isplitl [Hat Hr]
  · isplitl [Hat]; · iexact Hat
    iexact Hr
  iexact Htok

/-- The launch's ghost state is the pipeline's and what every device is dealt. -/
theorem fund_all : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀ G holds
  simp only [bigSep_sep']
  iintro Hu
  ihave H := (ownU_pair _ _) $$ Hu
  icases H with ⟨HP, HX⟩
  ihave H := (own_pair_emb _ _ _) $$ HX
  icases H with ⟨HX, HS⟩
  imod (fund_ring m) $$ HX with ⟨Hst, Hat, Htok⟩
  imod (Release.slots_init ES (Finset.univ : Finset Key) 1 (keySlot (F := F))) $$ HS with ⟨%κs, -, #HI, Hrd, Hwr⟩
  ihave Hrd := (readers_deal (F := F)) $$ Hrd
  ihave Hwr := (writers_deal (F := F)) $$ Hwr
  imodintro
  isplitl [HP]; · iexact HP
  isplitl [Hst]; · iexact Hst
  isplitr
  · iapply (BI.bigSep_of_persistent Finset.univ iprop(∃ κs, slotInvs (F := F) κs))
    iexists κs
    unfold slotInvs
    iexact HI
  isplitl [Hat]; · iexact Hat
  isplitl [Htok]; · iexact Htok
  isplitl [Hrd]; · iexact Hrd
  iexact Hwr

/-! ## The invariants -/

/-- A device's semaphores and cells' states make its cells' invariants. -/
theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun y : Cl => iprop(∃ κ : ℕ, cellInv ER (Rd (xs m) (ws m)) κ (cell c y)))
          ∗ (∃ κs, slotInvs κs) ∗ (holds c : sProp 𝕄)) := by
  unfold G
  iintro ⟨Hos, Hus, Hst, HS, Hh⟩
  ihave Hv := (Entails.of_eq (sems_eq (F := F) c).symm) $$ [Hos Hus]
  · isplitl [Hus] <;> iassumption
  imod (show iprop((bigSep Finset.univ fun y : Cl => semVal (cell c y) 0) ∗ bigSep Finset.univ fun y : Cl => roundState ER (Rd (xs m) (ws m)) (cell c y) 0)
      ⊢ (|={Set.univ}=> bigSep Finset.univ fun y : Cl => iprop(∃ κ : ℕ, cellInv ER (Rd (xs m) (ws m)) κ (cell c y)) : sProp 𝕄) from by
        rw [← bigSep_sep']
        exact (bigSep_mono fun y _ => (Rounds.body_intro ER (Rd (xs m) (ws m)) (cell c y)).trans inv_alloc).trans (bigSep_fupd _ _)) $$ [Hv Hst] with Hinv
  · isplitl [Hv] <;> iassumption
  imodintro
  isplitl [Hinv]; · iexact Hinv
  isplitl [HS]; · iexact HS
  iexact Hh

omit [FloatOps F] in
/-- A device at round 0 of its cell knows that round 0 is reached; -/
theorem atR_reached (c : Dev nD) (y : Cl) : (atR c y 0 : sProp 𝕄) ⊢ iprop(reached ER (cell c y) 0 ∗ atR c y 0) := by
  unfold atR
  iintro ⟨Hat, #Hr⟩
  isplitr; · iexact Hr
  isplitl [Hat]; · iexact Hat
  iexact Hr

omit [FloatOps F] in
/-- so it does of all its cells, -/
theorem holds_reached (c : Dev nD) :
    (holds c : sProp 𝕄) ⊢ iprop((bigSep Finset.univ fun y : Cl => reached ER (cell c y) 0) ∗ holds c) := by
  unfold holds
  iintro ⟨Hat, Hd, Hr, Hw⟩
  have h : (bigSep Finset.univ fun y : Cl => atR c y 0)
      ⊢ (iprop((bigSep Finset.univ fun y : Cl => reached ER (cell c y) 0) ∗ bigSep Finset.univ fun y : Cl => atR c y 0) : sProp 𝕄) :=
    (bigSep_mono fun y _ => atR_reached c y).trans (Entails.of_eq (bigSep_sep' _ _ _))
  ihave H := h $$ Hat
  icases H with ⟨Hre, Hat⟩
  isplitl [Hre]; · iexact Hre
  isplitl [Hat]; · iexact Hat
  isplitl [Hd]; · iexact Hd
  isplitl [Hr]; · iexact Hr
  iexact Hw

omit [FloatOps F] in
/-- and all devices do. -/
theorem all_reached :
    (bigSep Finset.univ fun c : Dev nD => holds c)
      ⊢ (iprop((bigSep Finset.univ fun p : Dev nD × Cl => reached ER (cell p.1 p.2) 0) ∗ bigSep Finset.univ fun c : Dev nD => holds c) : sProp 𝕄) := by
  rw [BI.bigSep_univ_prod]
  exact (bigSep_mono fun c _ => holds_reached (F := F) c).trans (Entails.of_eq (bigSep_sep' _ _ _))

omit [FloatOps F] in
/-- The invariants of the slots, found by every device, are the same ones. -/
theorem slotInvs_one :
    (bigSep Finset.univ fun _ : Dev nD => iprop(∃ κs, slotInvs κs)) ⊢ (iprop(∃ κs, slotInvs κs) : sProp 𝕄) :=
  bigSep_elim (Finset.mem_univ (0 : Dev nD))

/-- All devices' invariants together, and given to each. -/
theorem regroup :
    (bigSep Finset.univ fun c : Dev nD => iprop((bigSep Finset.univ fun y : Cl => iprop(∃ κ : ℕ, cellInv ER (Rd (xs m) (ws m)) κ (cell c y)))
        ∗ (∃ κs, slotInvs κs) ∗ (holds c : sProp 𝕄)))
      ⊢ bigSep Finset.univ (G' m) := by
  rw [bigSep_sep', bigSep_sep', ← BI.bigSep_univ_prod (fun p : Dev nD × Cl => iprop(∃ κ : ℕ, cellInv ER (Rd (xs m) (ws m)) κ (cell p.1 p.2)))]
  iintro ⟨HI, HS, Hh⟩
  ihave HK := (BI.bigSep_exists_pi Finset.univ (fun (p : Dev nD × Cl) (κ : ℕ) => (cellInv ER (Rd (xs m) (ws m)) κ (cell p.1 p.2) : sProp 𝕄))) $$ HI
  icases HK with ⟨%κ, #HI⟩
  ihave HS := (slotInvs_one (F := F)) $$ HS
  icases HS with ⟨%κs, #HS⟩
  ihave Hh := (all_reached (F := F)) $$ Hh
  icases Hh with ⟨#Hr, Hh⟩
  iapply (BI.bigSep_with_persistent (R := marks m κ κs) (Φ := fun c : Dev nD => holds (F := F) c) fun c _ => by
    unfold G'
    iintro ⟨#HM, Hh⟩
    iexists κ, κs
    isplitr; · iexact HM
    iexact Hh)
  isplitr
  · unfold marks
    isplitr; · iexact HI
    isplitr; · iexact Hr
    iexact HS
  iexact Hh

/-- The global step: all devices' semaphores and what they are dealt become their cells' and slots' invariants. -/
theorem glob : (bigSep Finset.univ fun c =>
      iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## A device's start and end -/

/-- What a device is dealt, with its credit and its part of the result, is what its body starts with. -/
theorem start_intro (c : Dev nD) :
    iprop(Pipeline.unscopedRestP Pipeline.Prefetch.none cfg0.spec c (fun b => m ((c : Thread nD τ).loc b)) ∗ levAts L lv
        ∗ Pipeline.launchCred (fun d => O d 0) c ∗ prngReg c (ρ c) ∗ G' m c)
      ⊢ |={Set.univ}=> iprop(start m c ∗ emp) := by
  have h : (Pipeline.unscopedRestP Pipeline.Prefetch.none cfg0.spec c (fun b => m ((c : Thread nD τ).loc b)) : sProp 𝕄)
      ⊢ bigSep Finset.univ fun q : Bool × Fin 4 => outAny c q.1 q.2 :=
    ((Entails.of_eq (Pipeline.unscopedRestP_none cfg0.spec c _)).trans (Entails.of_eq (unscopedRest0_eq c _))).trans (out_split c _)
  unfold start G' recs marks slotInvs
  iintro ⟨Hout, #Hlev, Hcr, -, ⟨%κ, %κs, ⟨#H1, #H2, #H3⟩, Hh⟩⟩
  ihave Hout := h $$ Hout
  imodintro
  isplitl
  · iexists κ, κs
    isplitr
    · isplitr; · iexact H1
      isplitr; · iexact H2
      isplitr; · iexact H3
      iexact Hlev
    iapply (opening_intro (F := F) c)
    isplitl [Hh]; · iexact Hh
    isplitl [Hcr]; · iexact Hcr
    iexact Hout
  · iempintro

omit [FloatOps F] in
/-- The buffers of the two directions are the scratch buffers. -/
theorem buffers_eq (c : Dev nD) :
    (bigSep Finset.univ fun b : Bool => buffer (F := F) c b : sProp 𝕄) = Pipeline.scopedRest (Ix := ℕ) (Name := ℕ) (U := UU) (Lvl := ℕ) cfg0.spec c := by
  rw [scopedRest0_eq, bigSep_bool]

/-- With the scratch buffers it is what holds before the pipeline's one point. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ slots c) from rfl, ← buffers_eq]
  iintro ⟨Hs, -, Hb⟩
  isplitl [Hs]; · iexact Hs
  iapply (slots_intro (F := F) c)
  iexact Hb

/-- What a device's result holds at the end. -/
def finished_out (c : Dev nD) (g : Buf (Elt F) ((c : Thread nD τ).loc main_v1)) : Prop :=
  ∀ q : Bool × Fin 4, (outPiece q.1 q.2).view.read (Elt F) g = result (xs m) (ws m) q.1 q.2 c

/-- What a device has at the end beside its own semaphores and scratch buffers. -/
def left (c : Dev nD) : sProp 𝕄 :=
  iprop(unscopedSems0 c ∗ ∃ g : Buf (Elt F) ((c : Thread nD τ).loc main_v1), ⌜finished_out m c g⌝ ∗ (((c : Thread nD τ).loc main_v1) ↦{fullShare} g))

/-- What holds after that point is what is left, the counters and the scratch buffers. -/
theorem phi1_exit (c : Dev nD) :
    (dats m ρ 0 c).Φ (Fin.last cfg0.N) ⊢ iprop(left m c ∗ Pipeline.ownSems0 osem c ∗ Pipeline.scopedRest cfg0.spec c) := by
  rw [show (dats m ρ 0 c).Φ (Fin.last cfg0.N) = ends (xs m) (ws m) c from rfl, ← buffers_eq]
  unfold ends left finished_out
  rw [sems_eq]
  iintro ⟨⟨Hu, Ho⟩, Hout, H6, H7⟩
  ihave Hout := (out_join c fun q => result (xs m) (ws m) q.1 q.2 c) $$ Hout
  isplitl [Hu Hout]
  · isplitl [Hu]; · iexact Hu
    iexact Hout
  isplitl [Ho]; · iexact Ho
  iapply (slots_elim (F := F) c)
  isplitl [H6]; · iexact H6
  iexact H7

/-- The windows' arrays are held in full. -/
theorem share_eq (c : Dev nD) (w : Fin cfg0.W) : (dats m ρ 0 c).share w = fullShare := by unfold Dat.share; split <;> rfl

omit [FloatOps F] in
/-- A counter that is none of the cells has no cell. -/
theorem clOf_none (s : SemLoc sig) (h : ∀ y : Cl, y.loc ≠ s) : clOf s = none := dif_neg fun ⟨y, hy⟩ => h y hy

/-- The counters of the staging copies are none of the cells. -/
theorem stage_sem (w : Fin cfg0.W) (s : Fin (cfg0.win w).nbuf) (y : Cl) : y.loc ≠ SemLoc.dma ((cfg0.win w).sem s) := by
  revert w s y; decide +kernel

/-- The pipeline's own waits are allowed. -/
theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · refine mayWait_of c _ 0 0 (by decide) ?_
      unfold lv
      rw [clOf_none _ (stage_sem w s)]
      exact Nat.one_pos
    · show _ ⊢ MayWait _ _ _ 0
      rw [MayWait_zero]; iintro -; iempintro

/-- What a finished device's memory and its unscoped counters are read to hold. -/
def reads (c : Dev nD) (s : MemSt nD τ sig (Elt F)) : Prop :=
  finished_out m c (s.mem ((c : Thread nD τ).loc main_v1))
    ∧ ∀ sm : SemLoc sig, sm.isScoped .tc = false → s.sem ((c.tc : Thread nD τ), sm) = 0

/-- What is left at the end fixes what the memory holds. -/
theorem left_reads (c : Dev nD) (s' : Phys nD τ sig (Elt F)) :
    iprop(left m c ∗ emp ∗ SI s') ⊢ (|={Set.univ}=> iprop(⌜reads m c s'.mem⌝ ∗ SI s') : sProp 𝕄) := by
  have h (g : Buf (Elt F) ((c : Thread nD τ).loc main_v1)) :
      iprop((((c : Thread nD τ).loc main_v1) ↦{fullShare} g) ∗ SI s') ⊢ (iprop(⌜s'.mem.mem ((c : Thread nD τ).loc main_v1) = g⌝ ∗ SI s') : sProp 𝕄) := by
    have := pointsTo_read_all (Ix := ℕ) (Name := ℕ) (U := UU) (Lvl := ℕ) {()} (fun _ : Unit => (c : Thread nD τ).loc main_v1) (fun _ => g) s'
    rw [bigSep_singleton] at this
    exact this.trans (sep_mono_left (BI.pure_mono fun h => h () (Finset.mem_singleton_self _)))
  unfold left reads
  iintro ⟨⟨Hu, ⟨%g, %hg, Hg⟩⟩, -, HSI⟩
  ihave H := (h g) $$ [Hg HSI]
  · isplitl [Hg] <;> iassumption
  icases H with ⟨%hm, HSI⟩
  imod (Pipeline.unscopedSems0_read (X := unscopedSems0 c) (c := c) fupd_intro s') $$ [Hu HSI] with ⟨%hs, HSI⟩
  · isplitl [Hu] <;> iassumption
  imodintro
  isplitr
  · ipureintro; exact ⟨by rw [hm]; exact hg, hs⟩
  iexact HSI

/-- What the run leaves: every result's slices, the arguments and the semaphores' counters. -/
def QC (r : PUnit × MemSt nD τ sig (Elt F)) : Prop :=
  (∀ c : Dev nD, finished_out m c (r.2.mem ((c : Thread nD τ).loc main_v1))
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0

set_option maxRecDepth 100000 in
/-- On eight devices, for any float values, from any memory with zero counters: every weakly fair execution of @main
    terminates, and every final state has each device's result at the reduced slices, the arguments unchanged and every
    semaphore counter at zero. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_eq m ρ) (hdistinct := winFacts0.arr_inj)
    (O₀ := fun d => O d 0) (howed₀ := fun _ => rfl) (howedN := fun _ => rfl)
    (L := L) (lv := lv) (hL := L_of_ne) (hwaits := waits m ρ)
    (G := G m) (G' := G' m) (u₀ := u₀) (hu₀ := fund_all m) (hglob := glob m)
    (hA := fun _ _ => rfl) (hpf := fun _ k => k.elim0)
    (X := start m) (Y := left m) (Z := fun _ => iprop(emp))
    (hX := start_intro m ρ) (hin := phi0_intro m ρ) (hout := phi1_exit m ρ)
    (QY := reads m) (hY := left_reads m)
    (hQ := fun _ h hs => ⟨fun c => ⟨(h c).2.2.1, ((h c).1 0).trans ((dats m ρ 0 c).arrAt_in 0 rfl _), ((h c).1 1).trans ((dats m ρ 0 c).arrAt_in 1 rfl _)⟩,
      sem_eq_zero hs fun c => (h c).2.2.2⟩)

end Cert.KernelIdeal.Ring

end
-- ==== Proof.KernelIdeal.Values.lean ====
/-
  The values: at the ideal values every piece of a device's result is the sum, over the eight devices, of the products of
  their blocks, with its negative entries replaced by zero.
-/
module

public import proofs.«01_k».proof.Proof.KernelIdeal.Launch
public import Idealize.ShloMosaic.Lib.MatmulPlain
public import Idealize.ShloMosaic.Lib.ValueIdx

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.KernelIdeal Cert.KernelIdeal.Gen

/-! ## The blocks multiplied -/

/-- A row of the whole activations: row `r` of device `t`'s block. -/
def row (t : Dev nD) (r : Fin 512) : Fin 4096 := ⟨512 * t.val + r.val, by have := t.isLt; have := r.isLt; simp only [nD] at *; omega⟩

/-- A column of the weights: column `n` of piece `k` of direction `b`. -/
def col (b : Bool) (k : Fin 4) (n : Fin 1024) : Fin 8192 :=
  ⟨4096 * b.toNat + 1024 * k.val + n.val, by have := k.isLt; have := n.isLt; have := b.toNat_le; omega⟩

section Sums

variable (x : Dev nD → Vec Ideal S4096x512 .f32) (w : Dev nD → Vec Ideal S512x8192 .f32)

/-- Device `e`'s part of an entry of device `t`'s result. -/
def part (b : Bool) (k : Fin 4) (t e : Dev nD) (r : Fin 512) (n : Fin 1024) : Ideal .f32 :=
  ∑ j : Fin 512, x e (ix2 (row t r) j) * w e (ix2 j (col b k n))

/-- A stage's product at an entry is that part. -/
theorem prod_at (b : Bool) (k : Fin 4) (t e : Dev nD) (off : Fin 2 → ℕ) (h : ∀ a, off a + S512x512.size a ≤ S4096x512.size a)
    (ho : off = ![512 * t.val, 0]) (r : Fin 512) (n : Fin 1024) :
    prod (VecWindow.window (x e) off S512x512.size h) (cols w b k e) (ix2 r n) = part x w b k t e r n := by
  subst ho
  unfold prod part
  rw [shapeCast_self, shapeCast_self]
  refine (Ideal.matmul_plain_apply (M := 512) (K := 512) (N := 1024) none _ _ _ r n).trans ?_
  rw [constant_apply, Ideal.ofBits_zero_f32, zero_add]
  refine Finset.sum_congr rfl fun j _ => ?_
  unfold VecWindow.window
  congr 1
  · refine congrArg (x e) (funext fun a => Fin.ext ?_)
    match a with
    | ⟨0, _⟩ => show 512 * t.val + 1 * r.val = 512 * t.val + r.val; omega
    | ⟨1, _⟩ => show 0 + 1 * j.val = j.val; omega
  · refine congrArg (w e) (funext fun a => Fin.ext ?_)
    match a with
    | ⟨0, _⟩ => show 0 + 1 * j.val = j.val; omega
    | ⟨1, _⟩ => show 4096 * b.toNat + 1024 * k.val + 1 * n.val = 4096 * b.toNat + 1024 * k.val + n.val; omega

/-! ## Whose rows are multiplied -/

/-- A sum starts with the rows of the device it reaches after seven hops, -/
theorem offI_row : ∀ (b : Bool) (d : Dev nD), offI b d = ![512 * ((sendDev b)^[7] d).val, 0] := by decide +kernel
/-- each hop adds the rows of the same device, -/
theorem offM_row : ∀ (b : Bool) (u : Fin 6) (d : Dev nD), offM b u d = ![512 * ((sendDev b)^[6 - u.val] d).val, 0] := by decide +kernel
/-- and so does that device. -/
theorem offL_row : ∀ d : Dev nD, k0_off5 d = ![512 * d.val, 0] := by decide +kernel

/-- The sum sent in transfer `u`: the parts of the devices passed. -/
theorem psum_at (b : Bool) (k : Fin 4) (r : Fin 512) (n : Fin 1024) : ∀ u : ℕ, u ≤ 6 → ∀ d : Dev nD,
    psum x w b k u d (ix2 r n) = ∑ i ∈ Finset.range (u + 1), part x w b k ((sendDev b)^[7 - u] d) ((creditDev b)^[i] d) r n
  | 0, _, d => by
    rw [Finset.sum_range_one]
    exact prod_at x w b k _ d _ _ (offI_row b d) r n
  | u + 1, hu, d => by
    rw [Finset.sum_range_succ']
    refine (addf_apply _ _ _).trans (congrArg₂ (· + ·) ?_ ?_)
    · rw [psum_at b k r n u (by omega) (creditDev b d)]
      refine Finset.sum_congr rfl fun i _ => ?_
      rw [show 7 - u = (7 - (u + 1)) + 1 by omega, Function.iterate_succ_apply, send_credit, Function.iterate_succ_apply]
    · have h6 : (stageNo u).val = u := Nat.mod_eq_of_lt (by omega)
      refine prod_at x w b k _ d _ _ ((offM_row b (stageNo u) d).trans ?_) r n
      rw [h6, show 7 - (u + 1) = 6 - u by omega]

/-- Eight hops pass every device once. -/
theorem hops : ∀ (b : Bool) (c : Dev nD), Function.Injective fun i : Fin 8 => (creditDev b)^[i.val] c := by decide +kernel

/-- So a sum over the hops is a sum over the devices. -/
theorem sum_hops (b : Bool) (c : Dev nD) (f : Dev nD → Ideal .f32) :
    ∑ i ∈ Finset.range 8, f ((creditDev b)^[i] c) = ∑ e : Dev nD, f e := by
  rw [Finset.sum_range fun i => f ((creditDev b)^[i] c)]
  exact Function.Bijective.sum_comp (Finite.injective_iff_bijective.mp (hops b c)) f

/-- An entry of a device's result. -/
theorem result_at (b : Bool) (k : Fin 4) (c : Dev nD) (r : Fin 512) (n : Fin 1024) :
    result x w b k c (ix2 r n) = max (∑ e : Dev nD, part x w b k c e r n) 0 := by
  unfold result
  rw [maximumf_apply, addf_apply, broadcast_apply, psum_at x w b k r n 6 le_rfl,
    show prodL x w b k c (ix2 r n) = _ from prod_at x w b k c c _ _ (offL_row c) r n,
    ← sum_hops b c fun e => part x w b k c e r n]
  refine congrArg₂ max ((congrArg (· + part x w b k c c r n) (Finset.sum_congr rfl fun i _ => ?_)).trans
    (Finset.sum_range_succ' (fun i => part x w b k c ((creditDev b)^[i] c) r n) 7).symm) Ideal.ofBits_zero_f32
  show part x w b k (sendDev b (creditDev b c)) ((creditDev b)^[i] (creditDev b c)) r n = _
  rw [send_credit, ← Function.iterate_succ_apply]

end Sums

/-! ## The whole product -/

/-- The sum over all positions, taken in eight blocks. -/
theorem sum_blocks (f : Fin 4096 → Ideal .f32) : ∑ e : Dev nD, ∑ j : Fin 512, f (row e j) = ∑ j : Fin 4096, f j := by
  rw [← Fintype.sum_prod_type' fun (e : Dev nD) (j : Fin 512) => f (row e j)]
  refine Fintype.sum_equiv (finProdFinEquiv (m := 8) (n := 512)) _ f fun p => congrArg f (Fin.ext ?_)
  show 512 * p.1.val + p.2.val = p.2.val + 512 * p.1.val
  omega

variable (X : (⟨2, ![4096, 4096]⟩ : Shape).Idx → Ideal .f32) (W : (⟨2, ![4096, 8192]⟩ : Shape).Idx → Ideal .f32)

/-- The parts of all devices, each holding its block of the columns of the activations and of the rows of the weights, add
    up to the entry of the whole product. -/
theorem parts_sum (x : Dev nD → Vec Ideal S4096x512 .f32) (w : Dev nD → Vec Ideal S512x8192 .f32)
    (hx : ∀ e, x e = Layout.block ⟨2, ![4096, 512]⟩ ⟨2, ![4096, 4096]⟩ 1 8 e X)
    (hw : ∀ e, w e = Layout.block ⟨2, ![512, 8192]⟩ ⟨2, ![4096, 8192]⟩ 0 8 e W)
    (b : Bool) (k : Fin 4) (c : Dev nD) (r : Fin 512) (n : Fin 1024) :
    ∑ e : Dev nD, part x w b k c e r n = ∑ j : Fin 4096, X (ix2 (row c r) j) * W (ix2 j (col b k n)) := by
  rw [← sum_blocks fun j => X (ix2 (row c r) j) * W (ix2 j (col b k n))]
  refine Finset.sum_congr rfl fun e _ => Finset.sum_congr rfl fun j _ => ?_
  rw [hx e, hw e]
  congr 1
  · refine congrArg X (funext fun a => Fin.ext ?_)
    match a with
    | ⟨0, _⟩ => rfl
    | ⟨1, _⟩ => show e.val * 512 + j.val = 512 * e.val + j.val; omega
  · refine congrArg W (funext fun a => Fin.ext ?_)
    match a with
    | ⟨0, _⟩ => show e.val * 512 + j.val = 512 * e.val + j.val; omega
    | ⟨1, _⟩ => rfl

/-- Every column of the result is in a piece. -/
theorem col_cover (q : Fin 8192) : ∃ b k n, q = col b k n := by
  have hq := q.isLt
  refine ⟨decide (4096 ≤ q.val), ⟨q.val % 4096 / 1024, by omega⟩, ⟨q.val % 1024, by omega⟩, Fin.ext ?_⟩
  unfold col
  by_cases h : 4096 ≤ q.val
  · simp only [h, decide_true, Bool.toNat_true]; omega
  · simp only [h, decide_false, Bool.toNat_false]; omega

/-- Its piece reads a buffer of the result there. -/
theorem out_read (b : Bool) (k : Fin 4) (c : Dev nD) (g : Buf (Elt Ideal) ((c : Thread nD τ).loc main_v1)) (r : Fin 512) (n : Fin 1024) :
    (outPiece b k).view.read (Elt Ideal) g (ix2 r n) = g (ix2 r (col b k n)) := by
  refine congrArg g (funext fun a => Fin.ext ?_)
  match a with
  | ⟨0, _⟩ => show 0 + 1 * r.val = r.val; omega
  | ⟨1, _⟩ => show 4096 * b.toNat + 1024 * k.val + 1 * n.val = 4096 * b.toNat + 1024 * k.val + n.val; omega

variable (m : (ℓ : Loc nD τ sig) → Buf (Elt Ideal) ℓ)

/-- The block the kernel reads of its first argument is all of it, -/
theorem xs_eq (c : Dev nD) : xs m c = m ((c : Thread nD τ).loc main_arg0) := by
  funext i
  refine congrArg (m ((c : Thread nD τ).loc main_arg0)) (funext fun a => Fin.ext ?_)
  match a with
  | ⟨0, _⟩ => show 0 * 4096 + 1 * (i 0).val = (i 0).val; omega
  | ⟨1, _⟩ => show 0 * 512 + 1 * (i 1).val = (i 1).val; omega

/-- and so with the second. -/
theorem ws_eq (c : Dev nD) : ws m c = m ((c : Thread nD τ).loc main_arg1) := by
  funext i
  refine congrArg (m ((c : Thread nD τ).loc main_arg1)) (funext fun a => Fin.ext ?_)
  match a with
  | ⟨0, _⟩ => show 0 * 512 + 1 * (i 0).val = (i 0).val; omega
  | ⟨1, _⟩ => show 0 * 8192 + 1 * (i 1).val = (i 1).val; omega

/-- A device's finished result is its block of any array that holds, at every entry, the larger of the whole product's
    entry and zero. -/
theorem result_block (v : (⟨2, ![4096, 8192]⟩ : Shape).Idx → Ideal .f32)
    (hv : ∀ (p : Fin 4096) (q : Fin 8192), v (ix2 p q) = max (∑ j : Fin 4096, X (ix2 p j) * W (ix2 j q)) 0)
    (hx : ∀ c : Dev nD, m ((c : Thread nD τ).loc main_arg0) = Layout.block ⟨2, ![4096, 512]⟩ ⟨2, ![4096, 4096]⟩ 1 8 c X)
    (hw : ∀ c : Dev nD, m ((c : Thread nD τ).loc main_arg1) = Layout.block ⟨2, ![512, 8192]⟩ ⟨2, ![4096, 8192]⟩ 0 8 c W)
    (c : Dev nD) (g : Buf (Elt Ideal) ((c : Thread nD τ).loc main_v1)) (hg : finished_out m c g) :
    g = Layout.block ⟨2, ![512, 8192]⟩ ⟨2, ![4096, 8192]⟩ 0 8 c v := by
  funext i
  obtain ⟨r, q, rfl⟩ : ∃ (r : Fin 512) (q : Fin 8192), i = ix2 r q := ⟨i 0, i 1, eq_ix2 i⟩
  obtain ⟨b, k, n, rfl⟩ := col_cover q
  have hi : Layout.block ⟨2, ![512, 8192]⟩ ⟨2, ![4096, 8192]⟩ 0 8 c v (by decide) (ix2 r (col b k n)) = v (ix2 (row c r) (col b k n)) := by
    refine congrArg v (funext fun a => Fin.ext ?_)
    match a with
    | ⟨0, _⟩ => show c.val * 512 + r.val = 512 * c.val + r.val; omega
    | ⟨1, _⟩ => rfl
  rw [hi, hv, ← out_read b k c g r n, hg (b, k), result_at,
    parts_sum X W (xs m) (ws m) (fun e => (xs_eq m e).trans (hx e)) (fun e => (ws_eq m e).trans (hw e))]

end Cert.KernelIdeal.Ring

end
-- ==== Proof.ReferenceValue.lean ====
/-
  The reference's value: every entry of its result is the larger of the product's entry and zero.
-/
module

public import proofs.«01_k».proof.Proof.Gen.ReferenceIdeal.Run
public import Idealize.ShloMosaic.Lib.StackMember
public import Idealize.ShloMosaic.Lib.ValueIdx

@[expose] public section

noncomputable section

open Idealize Idealize.ShloMosaic Idealize.ShloMosaic.ValueIdx

namespace Cert.ReferenceIdeal

open Cert.ReferenceIdeal.Gen

/-- What the reference computes from the whole activations and the whole weights. -/
def relu (X : FVec Ideal S4096x4096 .f32) (W : FVec Ideal S4096x8192 .f32) : FVec Ideal S4096x8192 .f32 :=
  maximumf (F := Ideal) (Host.dotGeneral dot_S4096x4096_S4096x8192_S4096x8192_1_0_0_1_n_n none X W)
    (broadcastInDim S4096x8192 ![] bcast_S_S4096x8192 (constant S_ .f32 0x00000000#32))

/-- It at an entry: the larger of the product's entry and zero. -/
theorem relu_at (X : FVec Ideal S4096x4096 .f32) (W : FVec Ideal S4096x8192 .f32) (p : Fin 4096) (q : Fin 8192) :
    relu X W (ix2 p q) = max (∑ j : Fin 4096, X (ix2 p j) * W (ix2 j q)) 0 :=
  congrArg₂ max (StackMember.dotGeneral_plain_apply (m := 4096) (k := 4096) (n := 8192) none X W p q) Ideal.ofBits_zero_f32

end Cert.ReferenceIdeal

end
-- ==== Proof.lean ====
/-
  The certificate: the kernel, its ideal form and the reference finish from every start with their arguments unchanged and
  every counter at zero; the ideal form is the kernel's own text; and at the ideal values every device ends with its block
  of rows of the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Values
public import proofs.«01_k».proof.Proof.ReferenceValue
public import Idealize.ShloMosaic.Adequacy
public import Idealize.ShloMosaic.Init

@[expose] public section

noncomputable section

namespace Cert.Proof

open Idealize.ShloMosaic Idealize.SL.Sem Cert.Kernel

/-- Started with the blocks of the reference's arguments, the kernel leaves on every device its block of the reference's
    result. -/
theorem agrees : Cert.algebraic_KernelIdeal_ReferenceIdeal := fun m g m' g' _ hargs =>
  ⟨Cert.ReferenceIdeal.relu
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run _ _ _).mono (fun r h c =>
      ⟨Cert.KernelIdeal.Ring.result_block _ _ m _ (Cert.ReferenceIdeal.relu_at _ _) (fun e => (hargs e).1) (fun e => (hargs e).2) c
        _ (h.1 c).1, (h.1 c).2⟩) (Cert.KernelIdeal.Ring.run_main m g),
    (θ_run _ _ _).mono (fun _ h => h 0) (Cert.ReferenceIdeal.Value.run m' g')⟩

/-- Everything the certificate claims. -/
theorem claim : Cert.Claim := ⟨Cert.Kernel.Gen.facts, Cert.KernelIdeal.Gen.facts, Cert.ReferenceIdeal.Gen.facts,
  fun m g _ => (θ_run _ _ _).mono (fun _ h => ⟨fun c => (h.1 c).2, h.2⟩) (Cert.Kernel.Ring.run_main m g),
  fun m g _ => (θ_run _ _ _).mono (fun _ h => ⟨fun c => (h.1 c).2, h.2⟩) (Cert.KernelIdeal.Ring.run_main m g),
  fun m g _ => (θ_run _ _ _).mono (fun r h => ⟨fun c => (h c).2, sem_eq_zero_of_no_sems rfl r.2⟩) (Cert.ReferenceIdeal.Value.run m g),
  trivial, agrees⟩

end Cert.Proof

end
